-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x24564x4 : Shape := ⟨3, ![32, 24564, 4]⟩
abbrev S32x24564x81 : Shape := ⟨3, ![32, 24564, 81]⟩
abbrev S32x24564 : Shape := ⟨2, ![32, 24564]⟩
abbrev S24564x4 : Shape := ⟨2, ![24564, 4]⟩
abbrev S_ : Shape := ⟨0, ![]⟩

class Facts : Prop where
  bcast_S_S32x24564x81 : S_.BroadcastsInDim S32x24564x81 (![] : Fin 0 → Fin S32x24564x81.rank)
  reducesTo_S32x24564x81_S_d0_1_2 : S32x24564x81.ReducesTo [0, 1, 2] S_
  h_S_ : 0 < S_.numel
  bcast_S_S32x24564 : S_.BroadcastsInDim S32x24564 (![] : Fin 0 → Fin S32x24564.rank)
  reducesTo_S32x24564_S_d0_1 : S32x24564.ReducesTo [0, 1] S_

variable [Facts]

def fn {F : FTy → Type} [FloatOps F] (main_arg0 : FVec F S32x24564x4 .f32) (main_arg1 : FVec F S32x24564x81 .f32) (main_arg2 : FVec F S32x24564x4 .f32) (main_arg3 : IVec S32x24564 32) (main_arg4 : FVec F S24564x4 .f32) : IVec S_ 1 :=
  let main_v0 : FVec F S32x24564x81 .f32 := Host.absf main_arg1
  let main_cst : FVec F S_ .f32 := constant S_ .f32 0x7F800000#32
  let main_v1 : FVec F S32x24564x81 .f32 := broadcastInDim S32x24564x81 ![] bcast_S_S32x24564x81 main_cst
  let main_v2 : IVec S32x24564x81 1 := cmpf .olt main_v0 main_v1
  let main_c : IVec S_ 1 := constantI S_ 1 1#1
  let main_v3 : IVec S_ 1 := (fun x v => Host.reduce IntOp.andi x v reducesTo_S32x24564x81_S_d0_1_2 h_S_) main_v2 main_c
  let main_c_0 : IVec S_ 32 := constantI S_ 32 0#32
  let main_v4 : IVec S32x24564 32 := broadcastInDim S32x24564 ![] bcast_S_S32x24564 main_c_0
  let main_v5 : IVec S32x24564 1 := cmpi .sge main_arg3 main_v4
  let main_c_1 : IVec S_ 32 := constantI S_ 32 81#32
  let main_v6 : IVec S32x24564 32 := broadcastInDim S32x24564 ![] bcast_S_S32x24564 main_c_1
  let main_v7 : IVec S32x24564 1 := cmpi .slt main_arg3 main_v6
  let main_v8 : IVec S32x24564 1 := andi main_v5 main_v7
  let main_c_2 : IVec S_ 1 := constantI S_ 1 1#1
  let main_v9 : IVec S_ 1 := (fun x v => Host.reduce IntOp.andi x v reducesTo_S32x24564_S_d0_1 h_S_) main_v8 main_c_2
  let main_v10 : IVec S_ 1 := andi main_v3 main_v9
  main_v10
-- ==== Kernel.lean ====
abbrev S32x24564x4 : Shape := ⟨3, ![32, 24564, 4]⟩
abbrev S32x24564x81 : Shape := ⟨3, ![32, 24564, 81]⟩
abbrev S32x24564 : Shape := ⟨2, ![32, 24564]⟩
abbrev S24564x4 : Shape := ⟨2, ![24564, 4]⟩
abbrev S81x32x24564 : Shape := ⟨3, ![81, 32, 24564]⟩
abbrev S32x4x24564 : Shape := ⟨3, ![32, 4, 24564]⟩
abbrev S1x128 : Shape := ⟨2, ![1, 128]⟩
abbrev S3x32x24564 : Shape := ⟨3, ![3, 32, 24564]⟩
abbrev S8x4x24564 : Shape := ⟨3, ![8, 4, 24564]⟩
abbrev S1x32x24564 : Shape := ⟨3, ![1, 32, 24564]⟩
abbrev S8x24564 : Shape := ⟨2, ![8, 24564]⟩
abbrev S8x1x24564 : Shape := ⟨3, ![8, 1, 24564]⟩
abbrev S1x8x4x24564 : Shape := ⟨4, ![1, 8, 4, 24564]⟩
abbrev S1 : Shape := ⟨1, ![1]⟩
abbrev S1x1x1x1 : Shape := ⟨4, ![1, 1, 1, 1]⟩
abbrev S1x1x1 : Shape := ⟨3, ![1, 1, 1]⟩
abbrev S1x1 : Shape := ⟨2, ![1, 1]⟩
abbrev S_ : Shape := ⟨0, ![]⟩

abbrev nBuf : Space → Nat
  | .hbm => 34
  | .vmem => 11
  | .smem => 0
  | _ => 0

abbrev bufTy : (tb : Table) → Fin (tcTables nBuf tb) → BufTy
  | .hbm, ⟨0, _⟩ => ⟨S32x24564x4, .f32⟩
  | .hbm, ⟨1, _⟩ => ⟨S32x24564x81, .f32⟩
  | .hbm, ⟨2, _⟩ => ⟨S32x24564x4, .f32⟩
  | .hbm, ⟨3, _⟩ => ⟨S32x24564, .i32⟩
  | .hbm, ⟨4, _⟩ => ⟨S24564x4, .f32⟩
  | .hbm, ⟨5, _⟩ => ⟨S81x32x24564, .f32⟩
  | .hbm, ⟨6, _⟩ => ⟨S32x4x24564, .f32⟩
  | .hbm, ⟨7, _⟩ => ⟨S32x4x24564, .f32⟩
  | .hbm, ⟨8, _⟩ => ⟨S1x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S3x32x24564, .f32⟩
  | .local _ .vmem, ⟨1, _⟩ => ⟨S3x32x24564, .f32⟩
  | .local _ .vmem, ⟨2, _⟩ => ⟨S32x24564, .i32⟩
  | .local _ .vmem, ⟨3, _⟩ => ⟨S8x4x24564, .f32⟩
  | .local _ .vmem, ⟨4, _⟩ => ⟨S8x4x24564, .f32⟩
  | .local _ .vmem, ⟨5, _⟩ => ⟨S8x4x24564, .f32⟩
  | .local _ .vmem, ⟨6, _⟩ => ⟨S8x4x24564, .f32⟩
  | .local _ .vmem, ⟨7, _⟩ => ⟨S1x128, .f32⟩
  | .local _ .vmem, ⟨8, _⟩ => ⟨S32x24564, .f32⟩
  | .local _ .vmem, ⟨9, _⟩ => ⟨S32x24564, .bf16⟩
  | .local _ .vmem, ⟨10, _⟩ => ⟨S1x128, .f32⟩
  | _, _ => ⟨S32x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call0_v0 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![27], ![false]⟩

def k0_cond3 (i : grid0.Coords) : BitVec 1 :=
  let arg0 : BitVec 32 := BitVec.ofNat 32 (i 0).val
  let c4_i32 : BitVec 32 := 4#32
  let v36 : BitVec 1 := Scalar.cmpi .slt arg0 c4_i32
  let v37 : BitVec 32 := Scalar.extui v36
  let c0_i32_13 : BitVec 32 := 0#32
  let v38 : BitVec 1 := Scalar.cmpi .ne v37 c0_i32_13
  v38

def k0_mult1 (i : grid0.Coords) : BitVec 32 :=
  let arg0 : BitVec 32 := BitVec.ofNat 32 (i 0).val
  let c8_i32 : BitVec 32 := 8#32
  let v42 : BitVec 32 := Scalar.muli arg0 c8_i32
  v42
def k0_off1 (i : grid0.Coords) : Fin 2 → Nat :=
  let arg0 : BitVec 32 := BitVec.ofNat 32 (i 0).val
  let c8_i32 : BitVec 32 := 8#32
  let v42 : BitVec 32 := Scalar.muli arg0 c8_i32
  let v43 : BitVec 32 := v42
  let v44 : Index := Scalar.indexCast v43
  let c0_15 : Index := 0#32
  ![v44.toNat, 0]
def k0_cond4 (i : grid0.Coords) : BitVec 1 :=
  let arg0 : BitVec 32 := BitVec.ofNat 32 (i 0).val
  let c26_i32 : BitVec 32 := 26#32
  let v39 : BitVec 1 := Scalar.cmpi .eq arg0 c26_i32
  let v40 : BitVec 32 := Scalar.extui v39
  let c0_i32_14 : BitVec 32 := 0#32
  let v41 : BitVec 1 := Scalar.cmpi .ne v40 c0_i32_14
  v41

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x32x24564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x24564 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4x24564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x24564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x24564x4 : Shape := ⟨3, ![32, 24564, 4]⟩
abbrev S32x24564x81 : Shape := ⟨3, ![32, 24564, 81]⟩
abbrev S32x24564 : Shape := ⟨2, ![32, 24564]⟩
abbrev S24564x4 : Shape := ⟨2, ![24564, 4]⟩
abbrev S786048x81 : Shape := ⟨2, ![786048, 81]⟩
abbrev S786048 : Shape := ⟨1, ![786048]⟩
abbrev S_ : Shape := ⟨0, ![]⟩
abbrev S786048x1 : Shape := ⟨2, ![786048, 1]⟩
abbrev S786048x1x1 : Shape := ⟨3, ![786048, 1, 1]⟩
abbrev S1 : Shape := ⟨1, ![1]⟩
abbrev S1x1x1 : Shape := ⟨3, ![1, 1, 1]⟩
abbrev S32x24564x1 : Shape := ⟨3, ![32, 24564, 1]⟩

abbrev nBuf : Space → Nat
  | .hbm => 101
  | .vmem => 0
  | .smem => 0
  | _ => 0

abbrev bufTy : (tb : Table) → Fin (tcTables nBuf tb) → BufTy
  | .hbm, ⟨0, _⟩ => ⟨S32x24564x4, .f32⟩
  | .hbm, ⟨1, _⟩ => ⟨S32x24564x81, .f32⟩
  | .hbm, ⟨2, _⟩ => ⟨S32x24564x4, .f32⟩
  | .hbm, ⟨3, _⟩ => ⟨S32x24564, .i32⟩
  | .hbm, ⟨4, _⟩ => ⟨S24564x4, .f32⟩
  | .hbm, ⟨5, _⟩ => ⟨S786048x81, .f32⟩
  | .hbm, ⟨6, _⟩ => ⟨S786048, .i32⟩
  | .hbm, ⟨7, _⟩ => ⟨S_, .f32⟩
  | .hbm, ⟨8, _⟩ => ⟨S786048, .f32⟩
  | .hbm, ⟨9, _⟩ => ⟨S_, .f32⟩
  | .hbm, ⟨10, _⟩ => ⟨S786048, .f32⟩
  | .hbm, ⟨11, _⟩ => ⟨S786048, .f32⟩
  | .hbm, ⟨12, _⟩ => ⟨S786048x1, .f32⟩
  | .hbm, ⟨13, _⟩ => ⟨S786048x81, .f32⟩
  | .hbm, ⟨14, _⟩ => ⟨S786048x81, .f32⟩
  | .hbm, ⟨15, _⟩ => ⟨S786048x81, .f32⟩
  | .hbm, ⟨16, _⟩ => ⟨S_, .f32⟩
  | .hbm, ⟨17, _⟩ => ⟨S786048, .f32⟩
  | .hbm, ⟨18, _⟩ => ⟨S786048x1, .f32⟩
  | .hbm, ⟨19, _⟩ => ⟨S786048x1, .f32⟩
  | .hbm, ⟨20, _⟩ => ⟨S786048x81, .f32⟩
  | .hbm, ⟨21, _⟩ => ⟨S786048x81, .f32⟩
  | .hbm, ⟨22, _⟩ => ⟨S786048x1, .i32⟩
  | .hbm, ⟨23, _⟩ => ⟨S_, .i32⟩
  | .hbm, ⟨24, _⟩ => ⟨S786048x1, .i32⟩
  | .hbm, ⟨25, _⟩ => ⟨S786048x1, .i1⟩
  | .hbm, ⟨26, _⟩ => ⟨S_, .i32⟩
  | .hbm, ⟨27, _⟩ => ⟨S786048x1, .i32⟩
  | .hbm, ⟨28, _⟩ => ⟨S786048x1, .i32⟩
  | .hbm, ⟨29, _⟩ => ⟨S786048x1, .i32⟩
  | .hbm, ⟨30, _⟩ => ⟨S786048x1x1, .i32⟩
  | .hbm, ⟨31, _⟩ => ⟨S1, .i32⟩
  | .hbm, ⟨32, _⟩ => ⟨S_, .i32⟩
  | .hbm, ⟨33, _⟩ => ⟨S786048x1x1, .i32⟩
  | .hbm, ⟨34, _⟩ => ⟨S786048x1x1, .i1⟩
  | .hbm, ⟨35, _⟩ => ⟨S1x1x1, .i32⟩
  | .hbm, ⟨36, _⟩ => ⟨S786048x1x1, .i32⟩
  | .hbm, ⟨37, _⟩ => ⟨S786048x1x1, .i1⟩
  | .hbm, ⟨38, _⟩ => ⟨S786048x1x1, .i1⟩
  | .hbm, ⟨39, _⟩ => ⟨S_, .i1⟩
  | .hbm, ⟨40, _⟩ => ⟨S786048x1, .i1⟩
  | .hbm, ⟨41, _⟩ => ⟨S786048x1, .f32⟩
  | .hbm, ⟨42, _⟩ => ⟨S_, .f32⟩
  | .hbm, ⟨43, _⟩ => ⟨S786048x1, .f32⟩
  | .hbm, ⟨44, _⟩ => ⟨S786048x1, .f32⟩
  | .hbm, ⟨45, _⟩ => ⟨S786048, .f32⟩
  | .hbm, ⟨46, _⟩ => ⟨S786048, .f32⟩
  | .hbm, ⟨47, _⟩ => ⟨S_, .i32⟩
  | .hbm, ⟨48, _⟩ => ⟨S786048, .i32⟩
  | .hbm, ⟨49, _⟩ => ⟨S786048, .i1⟩
  | .hbm, ⟨50, _⟩ => ⟨S786048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S786048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .i32⟩
  | .hbm, ⟨65, _⟩ => ⟨S32x24564, .i32⟩
  | .hbm, ⟨66, _⟩ => ⟨S32x24564, .i1⟩
  | .hbm, ⟨67, _⟩ => ⟨S32x24564, .f32⟩
  | .hbm, ⟨68, _⟩ => ⟨S_, .f32⟩
  | .hbm, ⟨69, _⟩ => ⟨S_, .f32⟩
  | .hbm, ⟨70, _⟩ => ⟨S32x24564x4, .f32⟩
  | .hbm, ⟨71, _⟩ => ⟨S32x24564x4, .f32⟩
  | .hbm, ⟨72, _⟩ => ⟨S_, .f32⟩
  | .hbm, ⟨73, _⟩ => ⟨S32x24564x4, .f32⟩
  | .hbm, ⟨74, _⟩ => ⟨S32x24564x4, .i1⟩
  | .hbm, ⟨75, _⟩ => ⟨S_, .f32⟩
  | .hbm, ⟨76, _⟩ => ⟨S32x24564x4, .f32⟩
  | .hbm, ⟨77, _⟩ => ⟨S32x24564x4, .f32⟩
  | .hbm, ⟨78, _⟩ => ⟨S32x24564x4, .f32⟩
  | .hbm, ⟨79, _⟩ => ⟨S_, .f32⟩
  | .hbm, ⟨80, _⟩ => ⟨S32x24564x4, .f32⟩
  | .hbm, ⟨81, _⟩ => ⟨S32x24564x4, .f32⟩
  | .hbm, ⟨82, _⟩ => ⟨S32x24564x4, .f32⟩
  | .hbm, ⟨83, _⟩ => ⟨S32x24564x1, .f32⟩
  | .hbm, ⟨84, _⟩ => ⟨S32x24564x4, .f32⟩
  | .hbm, ⟨85, _⟩ => ⟨S32x24564x4, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S32x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst : Ref sig .tc := ⟨.hbm, 51, rfl⟩
abbrev main_v10 : Ref sig .tc := ⟨.hbm, 52, rfl⟩
abbrev main_cst_0 : Ref sig .tc := ⟨.hbm, 53, rfl⟩
abbrev main_v11 : Ref sig .tc := ⟨.hbm, 54, rfl⟩
abbrev main_v12 : Ref sig .tc := ⟨.hbm, 55, rfl⟩
abbrev main_cst_1 : Ref sig .tc := ⟨.hbm, 56, rfl⟩
abbrev main_v13 : Ref sig .tc := ⟨.hbm, 57, rfl⟩
abbrev main_cst_2 : Ref sig .tc := ⟨.hbm, 58, rfl⟩
abbrev main_v14 : Ref sig .tc := ⟨.hbm, 59, rfl⟩
abbrev main_v15 : Ref sig .tc := ⟨.hbm, 60, rfl⟩
abbrev main_cst_3 : Ref sig .tc := ⟨.hbm, 61, rfl⟩
abbrev main_call2_v0 : Ref sig .tc := ⟨.hbm, 62, rfl⟩
abbrev main_v16 : Ref sig .tc := ⟨.hbm, 63, rfl⟩
abbrev main_c_4 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_5 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_6 : Ref sig .tc := ⟨.hbm, 72, rfl⟩
abbrev main_v23 : Ref sig .tc := ⟨.hbm, 73, rfl⟩
abbrev main_v24 : Ref sig .tc := ⟨.hbm, 74, rfl⟩
abbrev main_cst_7 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_9 : Ref sig .tc := ⟨.hbm, 86, rfl⟩
abbrev main_v34 : Ref sig .tc := ⟨.hbm, 87, rfl⟩
abbrev main_cst_10 : Ref sig .tc := ⟨.hbm, 88, rfl⟩
abbrev main_v35 : Ref sig .tc := ⟨.hbm, 89, rfl⟩
abbrev main_cst_11 : Ref sig .tc := ⟨.hbm, 90, rfl⟩
abbrev main_v36 : Ref sig .tc := ⟨.hbm, 91, rfl⟩
abbrev main_cst_12 : Ref sig .tc := ⟨.hbm, 92, rfl⟩
abbrev main_v37 : Ref sig .tc := ⟨.hbm, 93, rfl⟩
abbrev main_v38 : Ref sig .tc := ⟨.hbm, 94, rfl⟩
abbrev main_cst_13 : Ref sig .tc := ⟨.hbm, 95, rfl⟩
abbrev main_call4_v0 : Ref sig .tc := ⟨.hbm, 96, rfl⟩
abbrev main_v39 : Ref sig .tc := ⟨.hbm, 97, rfl⟩
abbrev main_cst_14 : Ref sig .tc := ⟨.hbm, 98, rfl⟩
abbrev main_v40 : Ref sig .tc := ⟨.hbm, 99, rfl⟩
abbrev main_v41 : Ref sig .tc := ⟨.hbm, 100, rfl⟩

abbrev nD : Nat := 1
abbrev τ : Topo := Topo.v7x

variable {F : FTy → Type} [FloatOps F]
-- ==== Proof.Spec.lean ====
module

public import proofs.«01_k».proof.Proof.Gen.KernelIdeal.Frame
public import Idealize.ShloMosaic.Lib.Pipeline.ValueKit
public import Idealize.ShloMosaic.Lib.Pointwise
public import Idealize.ShloMosaic.Lib.WordCmp

@[expose] public section

/-! The loss as plain mathematics over the extended reals, and the facts about sums, exponentials and
    logarithms that the two programs' values are compared by. -/

set_option maxRecDepth 16384

noncomputable section

namespace Cert.Proof.Spec

open Idealize.ShloMosaic Cert.KernelIdeal

/-- The weight of a prior with target `w`: one if the target is positive, else zero. -/
def pos (w : BitVec 32) : EReal := FloatOps.uitofp (F := Ideal) .f32 (IntOp.cmpi .sgt w 0#32)

/-- The number of positive priors. -/
def count (T : Vec Ideal S32x24564 .i32) : EReal := ∑ i : S32x24564.Idx, pos (T i)

/-- The cross-entropy of one prior: the logarithm of the summed exponentials of its logits, less its target's logit. -/
def ce (X : Vec Ideal S32x24564x81 .f32) (T : Vec Ideal S32x24564 .i32) (i : S32x24564.Idx) : EReal :=
  Ideal.log (∑ k : Fin 81, Ideal.exp (X (ix3 (i 0) (i 1) k)))
    - X (ix3 (i 0) (i 1) ⟨(T i).toNat % 81, Nat.mod_lt _ (by decide)⟩)

/-- The summed cross-entropy of the positive priors. -/
def confSum (X : Vec Ideal S32x24564x81 .f32) (T : Vec Ideal S32x24564 .i32) : EReal :=
  ∑ i : S32x24564.Idx, pos (T i) * ce X T i

/-- The smooth L1 distance of two numbers. -/
def hub (a b : EReal) : EReal :=
  Scalar.select (Ideal.cmp .olt (max (a - b) (-(a - b))) 1)
    (Ideal.ofBits .f32 0x3F000000#32 * (a - b) * (a - b)) (max (a - b) (-(a - b)) - Ideal.ofBits .f32 0x3F000000#32)

/-- The summed smooth L1 distance of the positive priors' boxes. -/
def locSum (A B : Vec Ideal S32x24564x4 .f32) (T : Vec Ideal S32x24564 .i32) : EReal :=
  ∑ i : S32x24564x4.Idx, hub (A i) (B i) * pos (T (ix2 (i 0) (i 1)))

/-- A sum `s` divided by `d`, at least one, read as zero where the count `n` is not positive. -/
def mean (n d s : EReal) : EReal := Scalar.select (Ideal.cmp .ogt n 0) (Ideal.div s (max d 1)) 0

/-- The classification loss: the mean cross-entropy of the positive priors. -/
def confLoss (X : Vec Ideal S32x24564x81 .f32) (T : Vec Ideal S32x24564 .i32) : EReal :=
  mean (count T) (count T) (confSum X T)

/-- The localisation loss: the mean smooth L1 distance over the four coordinates of the positive priors. -/
def locLoss (A B : Vec Ideal S32x24564x4 .f32) (T : Vec Ideal S32x24564 .i32) : EReal :=
  mean (count T) (count T * Ideal.ofBits .f32 0x40800000#32) (locSum A B T)

/-- Widening a one-bit word to 32 bits and reading it signed gives the same number as reading it unsigned. -/
theorem pos_of_setWidth (w : BitVec 32) :
    FloatOps.sitofp (F := Ideal) .f32 (BitVec.setWidth 32 (IntOp.cmpi .sgt w 0#32)) = pos w := by
  unfold pos
  generalize IntOp.cmpi .sgt w 0#32 = b
  have h : ∀ b : BitVec 1, (BitVec.setWidth 32 b).toInt = (b.toNat : Int) := by decide
  show (((BitVec.setWidth 32 b).toInt : ℝ) : EReal) = ((b.toNat : ℝ) : EReal)
  rw [h]; simp

/-- A sum over a reshaped vector is the sum over the vector. -/
theorem sum_shapeCast {s t : Shape} (x : FVec Ideal s .f32) (h : s.ShapeCasts t) :
    ∑ j : t.Idx, (shapeCast t x h j : EReal) = ∑ i : s.Idx, (x i : EReal) :=
  Equiv.sum_comp (Shape.reshapeEquiv h) (fun i => (x i : EReal))

/-- A sum over an initial range equals a sum over a finite index type of that length. -/
theorem sum_range_dite {n : Nat} (f : Fin n → EReal) :
    ∑ k ∈ Finset.range n, (if h : k < n then f ⟨k, h⟩ else 0) = ∑ k : Fin n, f k := by
  rw [Finset.sum_range]
  exact Finset.sum_congr rfl fun k _ => by simp

/-- A finite sum of real numbers is the real number of the sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of finitely many, at least one, real numbers is a real number. -/
theorem fold_max_real {n : Nat} (x : Fin n → EReal) (hn : 0 < n) (hx : ∀ k, ∃ r : ℝ, x k = r) :
    ∃ r : ℝ, (Finset.univ : Finset (Fin n)).fold max (⊥ : EReal) x = r := by
  have h1 : (Finset.univ : Finset (Fin n)).fold max (⊥ : EReal) x < ⊤ := by
    rw [Finset.fold_max_lt]
    refine ⟨bot_lt_top, fun k _ => ?_⟩
    obtain ⟨r, hr⟩ := hx k
    rw [hr]; exact EReal.coe_lt_top r
  have h2 : (⊥ : EReal) < (Finset.univ : Finset (Fin n)).fold max (⊥ : EReal) x := by
    rw [Finset.lt_fold_max]
    obtain ⟨r, hr⟩ := hx ⟨0, hn⟩
    exact Or.inr ⟨⟨0, hn⟩, Finset.mem_univ _, by rw [hr]; exact EReal.bot_lt_coe r⟩
  exact ⟨_, (EReal.coe_toReal h1.ne h2.ne').symm⟩

/-- The cross-entropy taken from logits shifted by a real number is the cross-entropy of the logits. -/
theorem lse_shift {n : Nat} (x : Fin n → EReal) (t : Fin n) (M : EReal) (hx : ∀ k, ∃ r : ℝ, x k = r) (hM : ∃ r : ℝ, M = r) :
    -((x t - M) - Ideal.log (∑ k, Ideal.exp (x k - M))) = Ideal.log (∑ k, Ideal.exp (x k)) - x t := by
  choose r hr using hx
  obtain ⟨M, rfl⟩ := hM
  have e1 : ∀ k, Ideal.exp (x k - (M : EReal)) = ((Real.exp (r k - M) : ℝ) : EReal) := fun k => by
    rw [hr, ← EReal.coe_sub, Ideal.exp_coe]
  have e2 : ∀ k, Ideal.exp (x k) = ((Real.exp (r k) : ℝ) : EReal) := fun k => by rw [hr, Ideal.exp_coe]
  have p1 : 0 < ∑ k, Real.exp (r k) := Finset.sum_pos (fun k _ => Real.exp_pos _) ⟨t, Finset.mem_univ _⟩
  have p2 : 0 < ∑ k, Real.exp (r k - M) := Finset.sum_pos (fun k _ => Real.exp_pos _) ⟨t, Finset.mem_univ _⟩
  have e3 : (∑ k, Real.exp (r k - M)) = (∑ k, Real.exp (r k)) * Real.exp (-M) := by
    rw [Finset.sum_mul]
    exact Finset.sum_congr rfl fun k _ => by rw [← Real.exp_add, sub_eq_add_neg]
  simp only [e1, e2, coe_sum, Ideal.log_coe, if_neg (not_le.mpr p1), if_neg (not_le.mpr p2), hr t]
  rw [e3, Real.log_mul p1.ne' (Real.exp_pos _).ne', Real.log_exp]
  rw [← EReal.coe_sub, ← EReal.coe_sub, ← EReal.coe_sub, ← EReal.coe_neg]
  congr 1; ring

end Cert.Proof.Spec

end
-- ==== Proof.Pay.lean ====
module

public import proofs.«01_k».proof.Proof.Spec

@[expose] public section

/-! What the kernel's arithmetic computes at one index, over the extended reals. -/

set_option maxRecDepth 16384

noncomputable section

namespace Cert.Proof.Pay

open Idealize.ShloMosaic Idealize.ShloMosaic.TcCoe Idealize.SL.Sem Cert.KernelIdeal Cert.KernelIdeal.Gen Cert.Proof.Spec

/-- The first of the three classes of a block of logits, as the kernel loads it. -/
abbrev slab0 (X : Vec Ideal S3x32x24564 .f32) : Vec Ideal S1x32x24564 .f32 :=
  View.ld X (Rect.unit ![0, 0, 0] ![1, 32, 24564] inb_S3x32x24564_S1x32x24564_0_0_0)
/-- The second class. -/
abbrev slab1 (X : Vec Ideal S3x32x24564 .f32) : Vec Ideal S1x32x24564 .f32 :=
  View.ld X (Rect.unit ![1, 0, 0] ![1, 32, 24564] inb_S3x32x24564_S1x32x24564_1_0_0)
/-- The third class. -/
abbrev slab2 (X : Vec Ideal S3x32x24564 .f32) : Vec Ideal S1x32x24564 .f32 :=
  View.ld X (Rect.unit ![2, 0, 0] ![1, 32, 24564] inb_S3x32x24564_S1x32x24564_2_0_0)

/-- The lane numbers of the output row. -/
abbrev lanes : IVec S1x128 32 := iota .tc S1x128 32 [1] iota_S1x128_d1_w32

/-- The three exponentials a grid point adds up for one prior. -/
theorem pay6_at (X : Vec Ideal S3x32x24564 .f32) (j : S32x24564.Idx) :
    k0_pay6 (slab0 X) (slab1 X) (slab2 X) j
      = Ideal.exp (X (ix3 0 (j 0) (j 1))) + Ideal.exp (X (ix3 1 (j 0) (j 1))) + Ideal.exp (X (ix3 2 (j 0) (j 1))) := by
  idx_vars j
  pointwise [k0_pay6, k0_pay3, k0_pay4, k0_pay5, slab0, slab1, slab2]

/-- The first grid point stores them. -/
theorem pay8_at (X : Vec Ideal S3x32x24564 .f32) (j : S32x24564.Idx) :
    k0_pay8 (slab0 X) (slab1 X) (slab2 X) j
      = Ideal.exp (X (ix3 0 (j 0) (j 1))) + Ideal.exp (X (ix3 1 (j 0) (j 1))) + Ideal.exp (X (ix3 2 (j 0) (j 1))) := by
  rw [← pay6_at]
  idx_vars j
  pointwise [k0_pay8]

/-- A later grid point adds them to what is stored. -/
theorem pay11_at (X : Vec Ideal S3x32x24564 .f32) (a : Vec Ideal S32x24564 .f32) (j : S32x24564.Idx) :
    k0_pay11 (slab0 X) (slab1 X) (slab2 X) a j
      = (a j : EReal) + (Ideal.exp (X (ix3 0 (j 0) (j 1))) + Ideal.exp (X (ix3 1 (j 0) (j 1))) + Ideal.exp (X (ix3 2 (j 0) (j 1)))) := by
  rw [← pay6_at]
  idx_vars j
  pointwise [k0_pay11]

/-- The logit of class `k`, where the target word is `k`, else zero. -/
def pick (w : BitVec 32) (k : Nat) (x : EReal) : EReal := Scalar.select (IntOp.cmpi .eq w (BitVec.ofNat 32 k)) x 0

/-- The three picked logits of a grid point. -/
theorem pay7_at (i : grid0.Coords) (T : Vec Ideal S32x24564 .i32) (X : Vec Ideal S3x32x24564 .f32) (j : S32x24564.Idx) :
    k0_pay7 i T (slab0 X) (slab1 X) (slab2 X) j
      = pick (T j) (3 * (i 0).val) (X (ix3 0 (j 0) (j 1))) + pick (T j) (3 * (i 0).val + 1) (X (ix3 1 (j 0) (j 1)))
        + pick (T j) (3 * (i 0).val + 2) (X (ix3 2 (j 0) (j 1))) := by
  have e0 : BitVec.ofNat 32 (3 * (i 0).val) = Scalar.muli (BitVec.ofNat 32 (i 0).val) 3#32 := by
    apply BitVec.eq_of_toNat_eq; simp [Scalar.muli, IntOp.muli, Nat.mul_comm]
  have e1 : BitVec.ofNat 32 (3 * (i 0).val + 1) = Scalar.addi (Scalar.muli (BitVec.ofNat 32 (i 0).val) 3#32) 1#32 := by
    rw [← e0]; apply BitVec.eq_of_toNat_eq; simp [Scalar.addi, IntOp.addi]
  have e2 : BitVec.ofNat 32 (3 * (i 0).val + 2) = Scalar.addi (Scalar.muli (BitVec.ofNat 32 (i 0).val) 3#32) 2#32 := by
    rw [← e0]; apply BitVec.eq_of_toNat_eq; simp [Scalar.addi, IntOp.addi]
  unfold pick
  rw [e0, e1, e2]
  clear e0 e1 e2
  idx_vars j
  pointwise [k0_pay7, k0_pay3, k0_pay4, k0_pay5, slab0, slab1, slab2]

/-- The first grid point stores them. -/
theorem pay9_at (i : grid0.Coords) (T : Vec Ideal S32x24564 .i32) (X : Vec Ideal S3x32x24564 .f32) (j : S32x24564.Idx) :
    k0_pay9 i T (slab0 X) (slab1 X) (slab2 X) j
      = pick (T j) (3 * (i 0).val) (X (ix3 0 (j 0) (j 1))) + pick (T j) (3 * (i 0).val + 1) (X (ix3 1 (j 0) (j 1)))
        + pick (T j) (3 * (i 0).val + 2) (X (ix3 2 (j 0) (j 1))) := by
  rw [← pay7_at]
  idx_vars j
  pointwise [k0_pay9]

/-- A later grid point adds them to what is stored. -/
theorem pay12_at (i : grid0.Coords) (T : Vec Ideal S32x24564 .i32) (X : Vec Ideal S3x32x24564 .f32)
    (b : Vec Ideal S32x24564 .bf16) (j : S32x24564.Idx) :
    k0_pay12 i T (slab0 X) (slab1 X) (slab2 X) b j
      = (b j : EReal) + (pick (T j) (3 * (i 0).val) (X (ix3 0 (j 0) (j 1))) + pick (T j) (3 * (i 0).val + 1) (X (ix3 1 (j 0) (j 1)))
        + pick (T j) (3 * (i 0).val + 2) (X (ix3 2 (j 0) (j 1)))) := by
  rw [← pay7_at]
  idx_vars j
  pointwise [k0_pay12]

/-- The output row's accumulator starts at zero. -/
theorem pay10_at (j : S1x128.Idx) : (k0_pay10 (F := Ideal) j : EReal) = 0 := by
  idx_vars j
  pointwise [k0_pay10]

/-- The kernel's sum of a whole [32, 24564] vector. -/
theorem total2 (v : FVec Ideal S32x24564 .f32) (h1 : S32x24564.ShapeCasts S1x32x24564) (h2 : S1x32x24564.Reduces [1, 2] S1)
    (hφ : FKind.Formats .f32) (hacc : (0x00000000#32 : BitVec 32) = FKind.add.neutral .f32 hφ)
    (h3 : S1.ShapeCasts S1x1x1) (h4) :
    extractAt ![0, 0, 0] (shapeCast S1x1x1 (multiReduction .add [1, 2] S1 (shapeCast S1x32x24564 v h1) 0x00000000#32 h2 hφ hacc) h3) h4
      = ∑ i : S32x24564.Idx, (v i : EReal) :=
  (Ideal.multiReduction_add_total _ _ h2 (by decide) hφ hacc _).trans (sum_shapeCast v h1)

/-- The kernel's sum of a whole [8, 4, 24564] vector. -/
theorem total3 (v : FVec Ideal S8x4x24564 .f32) (h1 : S8x4x24564.ShapeCasts S1x8x4x24564) (h2 : S1x8x4x24564.Reduces [1, 2, 3] S1)
    (hφ : FKind.Formats .f32) (hacc : (0x00000000#32 : BitVec 32) = FKind.add.neutral .f32 hφ)
    (h3 : S1.ShapeCasts S1x1x1x1) (h4) :
    extractAt ![0, 0, 0, 0] (shapeCast S1x1x1x1 (multiReduction .add [1, 2, 3] S1 (shapeCast S1x8x4x24564 v h1) 0x00000000#32 h2 hφ hacc) h3) h4
      = ∑ i : S8x4x24564.Idx, (v i : EReal) :=
  (Ideal.multiReduction_add_total _ _ h2 (by decide) hφ hacc _).trans (sum_shapeCast v h1)

/-- The kernel's weights. -/
theorem mask_at {s : Shape} (T : IVec s 32) (i : s.Idx) :
    sitofp (F := Ideal) .f32 (extui 32 (cmpi .sgt T (broadcast s 0#32)) natLt_1_32) i = pos (T i) :=
  pos_of_setWidth (T i)

/-- The kernel's weighted smooth L1 distance of one coordinate of one box. -/
theorem hub_at (M : FVec Ideal S8x24564 .f32) (A B : FVec Ideal S8x4x24564 .f32) (i : S8x4x24564.Idx) :
    mulf (F := Ideal) (φ := .f32) (select (cmpf .olt (absf (subf (shapeCast S8x4x24564 A shapeCasts_S8x4x24564_S8x4x24564) (shapeCast S8x4x24564 B shapeCasts_S8x4x24564_S8x4x24564)))
          (broadcast S8x4x24564 (Scalar.ofBits .f32 0x3F800000#32)))
        (mulf (mulf (broadcast S8x4x24564 (Scalar.ofBits .f32 0x3F000000#32)) (subf (shapeCast S8x4x24564 A shapeCasts_S8x4x24564_S8x4x24564) (shapeCast S8x4x24564 B shapeCasts_S8x4x24564_S8x4x24564)))
          (subf (shapeCast S8x4x24564 A shapeCasts_S8x4x24564_S8x4x24564) (shapeCast S8x4x24564 B shapeCasts_S8x4x24564_S8x4x24564)))
        (subf (absf (subf (shapeCast S8x4x24564 A shapeCasts_S8x4x24564_S8x4x24564) (shapeCast S8x4x24564 B shapeCasts_S8x4x24564_S8x4x24564)))
          (broadcast S8x4x24564 (Scalar.ofBits .f32 0x3F000000#32))))
      (broadcastTo S8x4x24564 (shapeCast S8x1x24564 M shapeCasts_S8x24564_S8x1x24564) broadcasts_S8x1x24564_S8x4x24564) i
      = hub (A i) (B i) * (M (ix2 (i 0) (i 2)) : EReal) := by
  idx_vars i
  pointwise [hub]
  rfl

set_option backward.isDefEq.respectTransparency false in
/-- A grid point's smooth L1 sum goes into lane one. -/
theorem pay1_at (T : Vec Ideal S8x24564 .i32) (A B : Vec Ideal S8x4x24564 .f32) (l : Vec Ideal S1x128 .f32) (j : S1x128.Idx) :
    k0_pay1 lanes T A B l j
      = (l j : EReal) + Scalar.select (IntOp.cmpi .eq (BitVec.ofNat 32 (j 1).val) 1#32)
          (∑ i : S8x4x24564.Idx, hub (A i) (B i) * pos (T (ix2 (i 0) (i 2)))) 0 := by
  unfold k0_pay1
  dsimp only
  rw [total3]
  simp only [hub_at, mask_at]
  generalize (∑ i : S8x4x24564.Idx, hub (A i) (B i) * pos (T (ix2 (i 0) (i 2)))) = S
  idx_vars j
  pointwise []

/-- The kernel's weighted cross-entropy of one prior. -/
theorem ce_at (M : FVec Ideal S32x24564 .f32) (a : FVec Ideal S32x24564 .f32) (b : FVec Ideal S32x24564 .bf16) (i : S32x24564.Idx) :
    mulf M (subf (log a) (extf .f32 b bitsLt_bf16_f32)) i = (M i : EReal) * (Ideal.log (a i) - (b i : EReal)) := rfl

/-- The last row from its two sums and the accumulator. -/
theorem row_at (S N : EReal) (l : FVec Ideal S1x128 .f32) (j : S1x128.Idx) :
    addf (addf (select (cmpi .eq lanes (broadcast S1x128 0#32)) (broadcast S1x128 S) (broadcast S1x128 (Scalar.ofBits (F := Ideal) .f32 0x00000000#32)))
        (select (cmpi .eq lanes (broadcast S1x128 2#32)) (broadcast S1x128 N) (broadcast S1x128 (Scalar.ofBits (F := Ideal) .f32 0x00000000#32)))) l j
      = (Scalar.select (IntOp.cmpi .eq (BitVec.ofNat 32 (j 1).val) 0#32) S 0
          + Scalar.select (IntOp.cmpi .eq (BitVec.ofNat 32 (j 1).val) 2#32) N 0) + (l j : EReal) := by
  idx_vars j
  pointwise []

set_option backward.isDefEq.respectTransparency false in
/-- The last grid point's output row: the cross-entropies in lane zero, the count in lane two, over the accumulator. -/
theorem pay2_at (T : Vec Ideal S32x24564 .i32) (a : Vec Ideal S32x24564 .f32) (b : Vec Ideal S32x24564 .bf16)
    (l : Vec Ideal S1x128 .f32) (j : S1x128.Idx) :
    k0_pay2 T lanes a b l j
      = (Scalar.select (IntOp.cmpi .eq (BitVec.ofNat 32 (j 1).val) 0#32)
            (∑ i : S32x24564.Idx, pos (T i) * (Ideal.log (a i) - (b i : EReal))) 0
          + Scalar.select (IntOp.cmpi .eq (BitVec.ofNat 32 (j 1).val) 2#32) (count T) 0) + (l j : EReal) := by
  unfold k0_pay2
  dsimp only
  rw [total2, total2]
  simp only [ce_at, mask_at]
  unfold Spec.count
  exact row_at _ _ l j

end Cert.Proof.Pay

end
-- ==== Proof.Kern.lean ====
module

public import proofs.«01_k».proof.Proof.Pay
public import Idealize.ShloMosaic.Lib.Pipeline.ReadBack

@[expose] public section

/-! The blocks a grid point reads, and what each grid point leaves in the output row and in the three
    accumulators, as the kernel's arithmetic on those blocks. -/

set_option maxRecDepth 16384

noncomputable section

namespace Cert.Proof.Kern

open Idealize.ShloMosaic Idealize.ShloMosaic.TcCoe Idealize.SL.Sem Cert.KernelIdeal Cert.KernelIdeal.Gen Cert.Proof.Spec Cert.Proof.Pay

variable (m : (ℓ : Loc nD τ sig) → Buf (Elt Ideal) ℓ) (c : Dev nD) (t : Fin cfg0.N)

/-- The logits. -/
abbrev argX : Vec Ideal S32x24564x81 .f32 := m ((c : Thread nD τ).loc main_arg1)
/-- The targets. -/
abbrev argT : Vec Ideal S32x24564 .i32 := m ((c : Thread nD τ).loc main_arg3)
/-- The predicted boxes. -/
abbrev argA : Vec Ideal S32x24564x4 .f32 := m ((c : Thread nD τ).loc main_arg0)
/-- The target boxes. -/
abbrev argB : Vec Ideal S32x24564x4 .f32 := m ((c : Thread nD τ).loc main_arg2)

/-- The kernel's first input is the logits with the classes leading. -/
theorem V_v0 : V m c main_v0 = transpose S81x32x24564 [2, 0, 1] (argX m c) transposes_S32x24564x81_S81x32x24564_2_0_1 := by
  show StableHlo.after (List.flatten [hostOps0]) (fun b => m (c, b)) (Proc.devRef .tc _) = _
  simp only [hostOps0, List.flatten_cons, List.flatten_nil, List.append_nil]
  after_results
  try rfl

/-- Its third input is the predicted boxes with the coordinates before the priors. -/
theorem V_v1 : V m c main_v1 = transpose S32x4x24564 [0, 2, 1] (argA m c) transposes_S32x24564x4_S32x4x24564_0_2_1 := by
  show StableHlo.after (List.flatten [hostOps0]) (fun b => m (c, b)) (Proc.devRef .tc _) = _
  simp only [hostOps0, List.flatten_cons, List.flatten_nil, List.append_nil]
  after_results
  try rfl

/-- Its fourth input is the target boxes, likewise. -/
theorem V_v2 : V m c main_v2 = transpose S32x4x24564 [0, 2, 1] (argB m c) transposes_S32x24564x4_S32x4x24564_0_2_1 := by
  show StableHlo.after (List.flatten [hostOps0]) (fun b => m (c, b)) (Proc.devRef .tc _) = _
  simp only [hostOps0, List.flatten_cons, List.flatten_nil, List.append_nil]
  after_results
  try rfl

/-- A grid point's coordinate is its number. -/
theorem coords_val : ∀ t : Fin cfg0.N, (grid0.coords t 0).val = t.val :=
  (by decide +kernel : ∀ t : Fin grid0.N, (grid0.coords t 0).val = t.val)

/-- The block each window reads at a grid point. -/
theorem idx0 : ∀ t : Fin cfg0.N, win0_0.index t = ![t.val, 0, 0] ∧ win0_1.index t = ![0, 0]
    ∧ win0_2.index t = ![min t.val 3, 0, 0] ∧ win0_3.index t = ![min t.val 3, 0, 0] ∧ win0_4.index t = ![0, 0] :=
  (by decide +kernel : ∀ t : Fin grid0.N, win0_0.index t = ![t.val, 0, 0] ∧ win0_1.index t = ![0, 0]
    ∧ win0_2.index t = ![min t.val 3, 0, 0] ∧ win0_3.index t = ![min t.val 3, 0, 0] ∧ win0_4.index t = ![0, 0])

/-- There are 27 grid points. -/
theorem point_lt (t : Fin cfg0.N) : t.val < 27 := lt_of_lt_of_eq t.isLt (show cfg0.N = 27 from N_0)

/-- The transposed logits at an index. -/
theorem tr0_at (x : Vec Ideal S32x24564x81 .f32) (i : S81x32x24564.Idx) :
    transpose S81x32x24564 [2, 0, 1] x transposes_S32x24564x81_S81x32x24564_2_0_1 i = x (ix3 (i 1) (i 2) (i 0)) := by pointwise

/-- The transposed boxes at an index. -/
theorem tr1_at (x : Vec Ideal S32x24564x4 .f32) (i : S32x4x24564.Idx) :
    transpose S32x4x24564 [0, 2, 1] x transposes_S32x24564x4_S32x4x24564_0_2_1 i = x (ix3 (i 0) (i 2) (i 1)) := by pointwise

/-- Point `t` reads the logits of classes `3 t` to `3 t + 2`. -/
theorem iblk0_at (y : S3x32x24564.Idx) :
    (iblk m c 0 t : Vec Ideal S3x32x24564 .f32) y
      = argX m c (ix3 (y 1) (y 2) ⟨3 * t.val + (y 0).val, by have := point_lt t; have : (y 0).val < 3 := (y 0).isLt; omega⟩) := by
  have hV := V_v0 m c
  blk_point [iblk, hV, idx0 t]
  rw [tr0_at]
  blk_ext [idx0 t]

/-- Every point reads all the targets. -/
theorem iblk1_eq : (iblk m c 1 t : Vec Ideal S32x24564 .i32) = argT m c := by
  funext y
  have hV := V_main_arg3 m c
  blk_point [iblk, hV, idx0 t]

/-- Point `t`, up to the fourth, reads the predicted boxes of images `8 t` to `8 t + 7`. -/
theorem iblk2_at (ht : t.val < 4) (y : S8x4x24564.Idx) :
    (iblk m c 2 t : Vec Ideal S8x4x24564 .f32) y
      = argA m c (ix3 ⟨8 * t.val + (y 0).val, by have : (y 0).val < 8 := (y 0).isLt; omega⟩ (y 2) (y 1)) := by
  have hV := V_v1 m c
  have hmin : min t.val 3 = t.val := by omega
  blk_point [iblk, hV, idx0 t]
  rw [tr1_at]
  blk_ext [idx0 t, hmin]

/-- And the target boxes of those images. -/
theorem iblk3_at (ht : t.val < 4) (y : S8x4x24564.Idx) :
    (iblk m c 3 t : Vec Ideal S8x4x24564 .f32) y
      = argB m c (ix3 ⟨8 * t.val + (y 0).val, by have : (y 0).val < 8 := (y 0).isLt; omega⟩ (y 2) (y 1)) := by
  have hV := V_v2 m c
  have hmin : min t.val 3 = t.val := by omega
  blk_point [iblk, hV, idx0 t]
  rw [tr1_at]
  blk_ext [idx0 t, hmin]

/-- The rows of targets a point up to the fourth reads lie inside the targets. -/
theorem off_inb (ht : t.val < 4) : ∀ a : Fin S32x24564.rank, k0_off1 (grid0.coords t) a + S8x24564.size a ≤ S32x24564.size a :=
  k0_off1_inb (grid0.coords t) ((hcond0_2 t).mpr ht)

/-- The targets of the eight images whose boxes point `t` reads. -/
abbrev tgt (ht : t.val < 4) (T : Vec Ideal S32x24564 .i32) : Vec Ideal S8x24564 .i32 :=
  View.ld T (Rect.unit (s := S32x24564) (k0_off1 (grid0.coords t)) S8x24564.size (off_inb t ht))

/-- They are those of images `8 t` to `8 t + 7`. -/
theorem tgt_at (ht : t.val < 4) (T : Vec Ideal S32x24564 .i32) (y : S8x24564.Idx) :
    tgt t ht T y = T (ix2 ⟨8 * t.val + (y 0).val, by have : (y 0).val < 8 := (y 0).isLt; omega⟩ (y 1)) := by
  refine View.ld_unit_apply_of _ _ _ _ _ _ fun a => ?_
  have e : k0_off1 (grid0.coords t) = ![8 * t.val, 0] := by rw [k0_off1_eq, coords_val]
  refine Eq.trans ?_ (congrArg (· + (y a).val) (congrFun e a).symm)
  match a with
  | 0 => rfl
  | 1 => exact (Nat.zero_add _).symm

/-- The point before. -/
theorem prev_lt : t.val - 1 < cfg0.N := Nat.lt_of_le_of_lt (Nat.sub_le _ _) t.isLt

/-- The first point stores its exponentials. -/
theorem acc_first (h : t.val = 0) :
    (outsAt0 m c t.val t.isLt).2.1 = k0_pay8 (slab0 (iblk m c 0 t)) (slab1 (iblk m c 0 t)) (slab2 (iblk m c 0 t)) := by
  rw [outsAt0_A m c t (by omega) (by omega) (by omega) (by omega)]; frame_out

/-- The first point stores its picked logits. -/
theorem tacc_first (h : t.val = 0) :
    (outsAt0 m c t.val t.isLt).2.2.1
      = k0_pay9 (grid0.coords t) (iblk m c 1 t) (slab0 (iblk m c 0 t)) (slab1 (iblk m c 0 t)) (slab2 (iblk m c 0 t)) := by
  rw [outsAt0_A m c t (by omega) (by omega) (by omega) (by omega)]; frame_out

/-- A later point adds its exponentials. -/
theorem acc_later (h : 1 ≤ t.val) :
    (outsAt0 m c t.val t.isLt).2.1 = k0_pay11 (slab0 (iblk m c 0 t)) (slab1 (iblk m c 0 t)) (slab2 (iblk m c 0 t))
      (outsAt0 m c (t.val - 1) (prev_lt t)).2.1 := by
  have := point_lt t
  by_cases h2 : t.val < 4
  · rw [outsAt0_B m c t (by omega) h h2 (by omega)]; frame_out; simp only [read_unread_whole]
  · by_cases h3 : t.val % 27 = 26
    · rw [outsAt0_D m c t (by omega) h h2 h3]; frame_out; simp only [read_unread_whole]
    · rw [outsAt0_C m c t (by omega) h h2 h3]; frame_out; simp only [read_unread_whole]

/-- A later point adds its picked logits. -/
theorem tacc_later (h : 1 ≤ t.val) :
    (outsAt0 m c t.val t.isLt).2.2.1
      = k0_pay12 (grid0.coords t) (iblk m c 1 t) (slab0 (iblk m c 0 t)) (slab1 (iblk m c 0 t)) (slab2 (iblk m c 0 t))
        (outsAt0 m c (t.val - 1) (prev_lt t)).2.2.1 := by
  have := point_lt t
  by_cases h2 : t.val < 4
  · rw [outsAt0_B m c t (by omega) h h2 (by omega)]; frame_out; simp only [read_unread_whole]
  · by_cases h3 : t.val % 27 = 26
    · rw [outsAt0_D m c t (by omega) h h2 h3]; frame_out; simp only [read_unread_whole]
    · rw [outsAt0_C m c t (by omega) h h2 h3]; frame_out; simp only [read_unread_whole]

/-- The first point's smooth L1 sum, over a zero row. -/
theorem lacc_first (h : t.val = 0) :
    (outsAt0 m c t.val t.isLt).2.2.2
      = k0_pay1 lanes (tgt t (by omega) (iblk m c 1 t)) (iblk m c 2 t) (iblk m c 3 t) (k0_pay10 (F := Ideal)) := by
  rw [outsAt0_A m c t (by omega) (by omega) (by omega) (by omega)]; frame_out

/-- The next three points add theirs. -/
theorem lacc_later (h : 1 ≤ t.val) (h2 : t.val < 4) :
    (outsAt0 m c t.val t.isLt).2.2.2
      = k0_pay1 lanes (tgt t h2 (iblk m c 1 t)) (iblk m c 2 t) (iblk m c 3 t) (outsAt0 m c (t.val - 1) (prev_lt t)).2.2.2 := by
  rw [outsAt0_B m c t (by omega) h h2 (by omega)]; frame_out; simp only [read_unread_whole]

/-- After them the row is kept. -/
theorem lacc_kept (h2 : ¬t.val < 4) :
    (outsAt0 m c t.val t.isLt).2.2.2 = (outsAt0 m c (t.val - 1) (prev_lt t)).2.2.2 := by
  have := point_lt t
  by_cases h3 : t.val % 27 = 26
  · rw [outsAt0_D m c t (by omega) (by omega) h2 h3]; rfl
  · rw [outsAt0_C m c t (by omega) (by omega) h2 h3]; rfl

/-- The last point's output row, from the accumulators as it leaves them. -/
theorem out_last (h3 : t.val % 27 = 26) :
    (outsAt0 m c t.val t.isLt).1
      = k0_pay2 (iblk m c 1 t) lanes (outsAt0 m c t.val t.isLt).2.1 (outsAt0 m c t.val t.isLt).2.2.1
        (outsAt0 m c t.val t.isLt).2.2.2 := by
  have := point_lt t
  rw [acc_later m c t (by omega), tacc_later m c t (by omega), lacc_kept m c t (by omega)]
  rw [outsAt0_D m c t (by omega) (by omega) (by omega) h3]; frame_out; simp only [read_unread_whole]

end Cert.Proof.Kern

end
-- ==== Proof.Fold.lean ====
module

public import proofs.«01_k».proof.Proof.Kern

@[expose] public section

/-! What the accumulators hold after each grid point, by induction on the points, and the output row the last
    point leaves: the summed cross-entropy, the summed smooth L1 distance and the count in its first three lanes. -/

set_option maxRecDepth 16384

noncomputable section

namespace Cert.Proof.Fold

open Idealize.ShloMosaic Idealize.ShloMosaic.TcCoe Idealize.SL.Sem Cert.KernelIdeal Cert.KernelIdeal.Gen Cert.Proof.Spec Cert.Proof.Pay
  Cert.Proof.Kern

/-- The exponential of the logit of class `k`, zero past the last class. -/
def expAt (X : Vec Ideal S32x24564x81 .f32) (j : S32x24564.Idx) (k : Nat) : EReal :=
  if h : k < 81 then Ideal.exp (X (ix3 (j 0) (j 1) ⟨k, h⟩)) else 0

/-- The logit of class `k` where it is the target, zero past the last class. -/
def pickAt (X : Vec Ideal S32x24564x81 .f32) (T : Vec Ideal S32x24564 .i32) (j : S32x24564.Idx) (k : Nat) : EReal :=
  if h : k < 81 then pick (T j) k (X (ix3 (j 0) (j 1) ⟨k, h⟩)) else 0

/-- The smooth L1 sum of the `k`-th eight images, zero past the last image. -/
def locAt (A B : Vec Ideal S32x24564x4 .f32) (T : Vec Ideal S32x24564 .i32) (k : Nat) : EReal :=
  ∑ i : S8x4x24564.Idx, if h : 8 * k + (i 0).val < 32 then
    hub (A (ix3 ⟨8 * k + (i 0).val, h⟩ (i 2) (i 1))) (B (ix3 ⟨8 * k + (i 0).val, h⟩ (i 2) (i 1)))
      * pos (T (ix2 ⟨8 * k + (i 0).val, h⟩ (i 2))) else 0

/-- Three more terms of a sum. -/
theorem sum_three (f : Nat → EReal) (n : Nat) :
    ∑ k ∈ Finset.range (3 * (n + 1)), f k = (∑ k ∈ Finset.range (3 * n), f k) + (f (3 * n) + f (3 * n + 1) + f (3 * n + 2)) := by
  rw [show 3 * (n + 1) = 3 * n + 1 + 1 + 1 from by omega, Finset.sum_range_succ, Finset.sum_range_succ, Finset.sum_range_succ,
    show 3 * n + 1 + 1 = 3 * n + 2 from by omega, add_assoc, add_assoc, add_assoc]

variable (m : (ℓ : Loc nD τ sig) → Buf (Elt Ideal) ℓ) (c : Dev nD) (t : Fin cfg0.N)

/-- A logit of the block of point `t`. -/
theorem blk_exp (j : S32x24564.Idx) (r : Fin 3) :
    Ideal.exp ((iblk m c 0 t : Vec Ideal S3x32x24564 .f32) (ix3 r (j 0) (j 1))) = expAt (argX m c) j (3 * t.val + r.val) := by
  have := point_lt t
  rw [iblk0_at]
  unfold expAt
  rw [dif_pos (show 3 * t.val + r.val < 81 from by omega)]
  rfl

/-- A picked logit of the block of point `t`. -/
theorem blk_pick (j : S32x24564.Idx) (r : Fin 3) :
    pick ((iblk m c 1 t : Vec Ideal S32x24564 .i32) j) (3 * t.val + r.val) ((iblk m c 0 t : Vec Ideal S3x32x24564 .f32) (ix3 r (j 0) (j 1)))
      = pickAt (argX m c) (argT m c) j (3 * t.val + r.val) := by
  have := point_lt t
  rw [iblk0_at, iblk1_eq]
  unfold pickAt
  rw [dif_pos (show 3 * t.val + r.val < 81 from by omega)]
  rfl

/-- The smooth L1 sum of point `t`. -/
theorem blk_loc (ht : t.val < 4) :
    (∑ i : S8x4x24564.Idx, hub ((iblk m c 2 t : Vec Ideal S8x4x24564 .f32) i) ((iblk m c 3 t : Vec Ideal S8x4x24564 .f32) i)
        * pos (tgt t ht (iblk m c 1 t) (ix2 (i 0) (i 2)))) = locAt (argA m c) (argB m c) (argT m c) t.val := by
  unfold locAt
  refine Finset.sum_congr rfl fun i _ => ?_
  rw [dif_pos (show 8 * t.val + (i 0).val < 32 from by have : (i 0).val < 8 := (i 0).isLt; omega)]
  rw [iblk2_at m c t ht, iblk3_at m c t ht, tgt_at t ht, iblk1_eq]
  rfl

/-- The first accumulator: the exponentials of the classes read so far. -/
theorem acc_eq : ∀ (n : ℕ) (hn : n < cfg0.N) (j : S32x24564.Idx),
    ((outsAt0 m c n hn).2.1 j : EReal) = ∑ k ∈ Finset.range (3 * (n + 1)), expAt (argX m c) j k
  | 0, hn, j => by
    have h := acc_first m c ⟨0, hn⟩ rfl
    rw [sum_three, show (∑ k ∈ Finset.range (3 * 0), expAt (argX m c) j k) = 0 from rfl, zero_add]
    refine (congrFun h j).trans ((pay8_at _ j).trans ?_)
    rw [blk_exp m c ⟨0, hn⟩ j 0, blk_exp m c ⟨0, hn⟩ j 1, blk_exp m c ⟨0, hn⟩ j 2]
    rfl
  | n + 1, hn, j => by
    have h := acc_later m c ⟨n + 1, hn⟩ (Nat.le_add_left 1 n)
    rw [sum_three, ← acc_eq n (Nat.lt_of_succ_lt hn) j]
    refine (congrFun h j).trans ((pay11_at _ _ j).trans ?_)
    rw [blk_exp m c ⟨n + 1, hn⟩ j 0, blk_exp m c ⟨n + 1, hn⟩ j 1, blk_exp m c ⟨n + 1, hn⟩ j 2]
    rfl

/-- The second accumulator: the picked logits of the classes read so far. -/
theorem tacc_eq : ∀ (n : ℕ) (hn : n < cfg0.N) (j : S32x24564.Idx),
    ((outsAt0 m c n hn).2.2.1 j : EReal) = ∑ k ∈ Finset.range (3 * (n + 1)), pickAt (argX m c) (argT m c) j k
  | 0, hn, j => by
    have h := tacc_first m c ⟨0, hn⟩ rfl
    rw [sum_three, show (∑ k ∈ Finset.range (3 * 0), pickAt (argX m c) (argT m c) j k) = 0 from rfl, zero_add]
    refine (congrFun h j).trans ((pay9_at _ _ _ j).trans ?_)
    rw [coords_val]
    exact congrArg₂ (· + ·) (congrArg₂ (· + ·) (blk_pick m c ⟨0, hn⟩ j 0) (blk_pick m c ⟨0, hn⟩ j 1)) (blk_pick m c ⟨0, hn⟩ j 2)
  | n + 1, hn, j => by
    have h := tacc_later m c ⟨n + 1, hn⟩ (Nat.le_add_left 1 n)
    rw [sum_three, ← tacc_eq n (Nat.lt_of_succ_lt hn) j]
    refine (congrFun h j).trans ((pay12_at _ _ _ _ j).trans ?_)
    rw [coords_val]
    exact congrArg (_ + ·) (congrArg₂ (· + ·)
      (congrArg₂ (· + ·) (blk_pick m c ⟨n + 1, hn⟩ j 0) (blk_pick m c ⟨n + 1, hn⟩ j 1)) (blk_pick m c ⟨n + 1, hn⟩ j 2))

/-- The third accumulator: the smooth L1 sums of the images read so far, in lane one. -/
theorem lacc_eq : ∀ (n : ℕ) (hn : n < cfg0.N) (j : S1x128.Idx),
    ((outsAt0 m c n hn).2.2.2 j : EReal)
      = Scalar.select (IntOp.cmpi .eq (BitVec.ofNat 32 (j 1).val) 1#32)
          (∑ k ∈ Finset.range (min n 3 + 1), locAt (argA m c) (argB m c) (argT m c) k) 0
  | 0, hn, j => by
    have h := lacc_first m c ⟨0, hn⟩ rfl
    refine (congrFun h j).trans ((pay1_at _ _ _ _ j).trans ?_)
    rw [blk_loc m c ⟨0, hn⟩ (by show 0 < 4; omega), pay10_at, zero_add]
    rw [show min 0 3 + 1 = 1 from rfl, Finset.sum_range_one]
  | n + 1, hn, j => by
    have ih := lacc_eq n (Nat.lt_of_succ_lt hn) j
    by_cases h2 : n + 1 < 4
    · have h := lacc_later m c ⟨n + 1, hn⟩ (Nat.le_add_left 1 n) h2
      refine (congrFun h j).trans ((pay1_at _ _ _ _ j).trans ?_)
      rw [blk_loc m c ⟨n + 1, hn⟩ h2]
      refine (congrArg (· + _) ih).trans ?_
      rw [show min n 3 + 1 = n + 1 from by omega, show min (n + 1) 3 + 1 = (n + 1) + 1 from by omega, Finset.sum_range_succ _ (n + 1)]
      generalize IntOp.cmpi .eq (BitVec.ofNat 32 (j 1).val) 1#32 = b
      unfold Scalar.select
      split <;> simp
    · have h := lacc_kept m c ⟨n + 1, hn⟩ h2
      refine (congrFun h j).trans (ih.trans ?_)
      rw [show min n 3 = 3 from by omega, show min (n + 1) 3 = 3 from by omega]

/-- The four smooth L1 sums are the sum over all boxes. -/
theorem locAt_sum (A B : Vec Ideal S32x24564x4 .f32) (T : Vec Ideal S32x24564 .i32) :
    ∑ k ∈ Finset.range 4, locAt A B T k = locSum A B T := by
  let e : Fin 4 × S8x4x24564.Idx ≃ S32x24564x4.Idx :=
    { toFun := fun p => ix3 ⟨8 * p.1.val + (p.2 0).val, by have := p.1.isLt; have : (p.2 0).val < 8 := (p.2 0).isLt; omega⟩ (p.2 2) (p.2 1)
      invFun := fun i => (⟨(i 0).val / 8, by have : (i 0).val < 32 := (i 0).isLt; omega⟩,
        ix3 ⟨(i 0).val % 8, by omega⟩ (i 2) (i 1))
      left_inv := fun p => by
        obtain ⟨k, i⟩ := p
        have h : (i 0).val < 8 := (i 0).isLt
        refine Prod.ext (Fin.ext ?_) (funext fun a => ?_)
        · show (8 * k.val + (i 0).val) / 8 = k.val
          omega
        · match a with
          | 0 => exact Fin.ext (by show (8 * k.val + (i 0).val) % 8 = (i 0).val; omega)
          | 1 => rfl
          | 2 => rfl
      right_inv := fun i => by
        refine funext fun a => ?_
        match a with
        | 0 => exact Fin.ext (by show 8 * ((i 0).val / 8) + (i 0).val % 8 = (i 0).val; omega)
        | 1 => rfl
        | 2 => rfl }
  rw [Finset.sum_range]
  unfold locSum
  rw [← Equiv.sum_comp e, Fintype.sum_prod_type]
  refine Finset.sum_congr rfl fun k _ => ?_
  unfold locAt
  refine Finset.sum_congr rfl fun i _ => ?_
  rw [dif_pos (show 8 * k.val + (i 0).val < 32 from by have := k.isLt; have : (i 0).val < 8 := (i 0).isLt; omega)]
  rfl

/-- A picked logit is the logit or zero. -/
theorem pick_eq (w : BitVec 32) (k : Nat) (x : EReal) : pick w k x = if w = BitVec.ofNat 32 k then x else 0 := by
  unfold pick Scalar.select IntOp.cmpi
  by_cases h : w = BitVec.ofNat 32 k
  · simp [h]
  · have e : (w == BitVec.ofNat 32 k) = false := by simpa using h
    simp [h, e]

/-- The picked logits of all classes add up to the target's logit. -/
theorem pickAt_sum (X : Vec Ideal S32x24564x81 .f32) (T : Vec Ideal S32x24564 .i32) (j : S32x24564.Idx) (hT : (T j).toNat < 81) :
    ∑ k ∈ Finset.range 81, pickAt X T j k = X (ix3 (j 0) (j 1) ⟨(T j).toNat % 81, Nat.mod_lt _ (by decide)⟩) := by
  rw [Finset.sum_eq_single (T j).toNat]
  · unfold pickAt
    rw [dif_pos hT, pick_eq, if_pos (by simp)]
    congr 3
    exact (Nat.mod_eq_of_lt hT).symm
  · intro k hk hne
    unfold pickAt
    split
    · rename_i h
      rw [pick_eq, if_neg]
      intro e
      apply hne
      rw [e, BitVec.toNat_ofNat, Nat.mod_eq_of_lt (by omega)]
    · rfl
  · intro h
    exact absurd (Finset.mem_range.mpr hT) h

/-- The output row of the last point: lane zero holds the summed cross-entropy, lane one the summed smooth L1
    distance, lane two the count, the other lanes zero. -/
def row (X : Vec Ideal S32x24564x81 .f32) (A B : Vec Ideal S32x24564x4 .f32) (T : Vec Ideal S32x24564 .i32) : Vec Ideal S1x128 .f32 :=
  fun j => (Scalar.select (IntOp.cmpi .eq (BitVec.ofNat 32 (j 1).val) 0#32) (confSum X T) 0
      + Scalar.select (IntOp.cmpi .eq (BitVec.ofNat 32 (j 1).val) 2#32) (Spec.count T) 0)
    + Scalar.select (IntOp.cmpi .eq (BitVec.ofNat 32 (j 1).val) 1#32) (locSum A B T) (0 : EReal)

/-- With the targets in range, that is what the last point leaves. -/
theorem out_eq (hT : ∀ i, (argT m c i).toNat < 81) (h3 : t.val % 27 = 26) :
    (outsAt0 m c t.val t.isLt).1 = row (argX m c) (argA m c) (argB m c) (argT m c) := by
  have hv : t.val = 26 := by have := point_lt t; omega
  funext j
  rw [out_last m c t h3]
  refine (pay2_at _ _ _ _ j).trans ?_
  have e1 : ∀ i, ((outsAt0 m c t.val t.isLt).2.1 i : EReal) = ∑ k : Fin 81, Ideal.exp (argX m c (ix3 (i 0) (i 1) k)) := fun i => by
    rw [acc_eq m c t.val t.isLt i, hv]
    exact sum_range_dite fun k : Fin 81 => Ideal.exp (argX m c (ix3 (i 0) (i 1) k))
  have e2 : ∀ i, ((outsAt0 m c t.val t.isLt).2.2.1 i : EReal) = argX m c (ix3 (i 0) (i 1) ⟨(argT m c i).toNat % 81, Nat.mod_lt _ (by decide)⟩) := fun i => by
    rw [tacc_eq m c t.val t.isLt i, hv]
    exact pickAt_sum _ _ i (hT i)
  have e3 : ((outsAt0 m c t.val t.isLt).2.2.2 j : EReal)
      = Scalar.select (IntOp.cmpi .eq (BitVec.ofNat 32 (j 1).val) 1#32) (locSum (argA m c) (argB m c) (argT m c)) 0 := by
    rw [lacc_eq m c t.val t.isLt j, hv, show min 26 3 + 1 = 4 from rfl, locAt_sum]
  rw [e3]
  simp only [e1, e2, iblk1_eq]
  rfl

end Cert.Proof.Fold

end
-- ==== Proof.Tail.lean ====
module

public import proofs.«01_k».proof.Proof.Fold

@[expose] public section

/-! The kernel's results: the output row's first three lanes, divided. -/

set_option maxRecDepth 16384

noncomputable section

namespace Cert.Proof.Tail

open Idealize.ShloMosaic Idealize.ShloMosaic.TcCoe Idealize.SL.Sem Cert.KernelIdeal Cert.KernelIdeal.Gen Cert.Proof.Spec Cert.Proof.Pay
  Cert.Proof.Kern Cert.Proof.Fold

variable (m : (ℓ : Loc nD τ sig) → Buf (Elt Ideal) ℓ) (c : Dev nD)

/-- The output array ends holding the last point's row. -/
theorem arr_eq (hT : ∀ i, (argT m c i).toNat < 81) :
    (dats m 0 c).arrAt 4 (cfgs 0).N = row (argX m c) (argA m c) (argB m c) (argT m c) := by
  refine (dats m 0 c).arrAt_eq_of_covers 4 _ (by decide +kernel) fun t hf y => ?_
  have h3 := (flush0_4 t).mp hf
  blk_simp
  rw [after0_4, out_eq m c t hT h3]
  refine congrArg (row (argX m c) (argA m c) (argB m c) (argT m c)) ?_
  blk_ext [idx0 t]

/-- A lane of the output row, as the host takes it out. -/
theorem lane_eq (r : Vec Ideal S1x128 .f32) (k : Nat) (hk : k < 128) (h : S1x128.Slices ![0, k] S1x1) (h' : S1x1.ShapeCasts S_) (i : S_.Idx) :
    shapeCast S_ (extractStridedSlice (s := S1x128) S1x1 ![0, k] r h) h' i = r (ix2 0 ⟨k, hk⟩) := by
  unfold shapeCast
  generalize Shape.reshapeEquiv h' i = j
  unfold extractStridedSlice
  refine congrArg r (funext fun a => Fin.ext ?_)
  match a with
  | 0 => show 0 + (j 0).val = 0; have : (j 0).val < 1 := (j 0).isLt; omega
  | 1 => show k + (j 1).val = k; have : (j 1).val < 1 := (j 1).isLt; omega

variable (X : Vec Ideal S32x24564x81 .f32) (A B : Vec Ideal S32x24564x4 .f32) (T : Vec Ideal S32x24564 .i32)

/-- Lane zero is the summed cross-entropy. -/
theorem row_zero : (row X A B T (ix2 0 ⟨0, by decide⟩) : EReal) = confSum X T := by
  show (Scalar.select 1#1 (confSum X T) 0 + Scalar.select 0#1 (Spec.count T) 0) + Scalar.select 0#1 (locSum A B T) (0 : EReal) = _
  simp [Scalar.select]

/-- Lane one is the summed smooth L1 distance. -/
theorem row_one : (row X A B T (ix2 0 ⟨1, by decide⟩) : EReal) = locSum A B T := by
  show (Scalar.select 0#1 (confSum X T) 0 + Scalar.select 0#1 (Spec.count T) 0) + Scalar.select 1#1 (locSum A B T) (0 : EReal) = _
  simp [Scalar.select]

/-- Lane two is the count. -/
theorem row_two : (row X A B T (ix2 0 ⟨2, by decide⟩) : EReal) = Spec.count T := by
  show (Scalar.select 0#1 (confSum X T) 0 + Scalar.select 1#1 (Spec.count T) 0) + Scalar.select 0#1 (locSum A B T) (0 : EReal) = _
  simp [Scalar.select]

/-- The host's guarded quotient. -/
theorem mean_at (n d s z : FVec Ideal S_ .f32) (hz : z = constant S_ .f32 0x00000000#32) (i : S_.Idx) :
    select (cmpf .ogt n (constant S_ .f32 0x00000000#32)) (Host.divf s (maximumf d (constant S_ .f32 0x3F800000#32))) z i
      = mean (n i) (d i) (s i) := by
  subst hz
  unfold mean
  pointwise []

/-- The classification loss as the host takes it from a row. -/
abbrev confOf (r : FVec Ideal S1x128 .f32) : FVec Ideal S_ .f32 :=
  select (cmpf .ogt (shapeCast S_ (extractStridedSlice (s := S1x128) S1x1 ![0, 2] r slices_S1x128_S1x1_0_2) shapeCasts_S1x1_S_) (constant S_ .f32 0x00000000#32))
    (Host.divf (shapeCast S_ (extractStridedSlice (s := S1x128) S1x1 ![0, 0] r slices_S1x128_S1x1_0_0) shapeCasts_S1x1_S_)
      (maximumf (shapeCast S_ (extractStridedSlice (s := S1x128) S1x1 ![0, 2] r slices_S1x128_S1x1_0_2) shapeCasts_S1x1_S_) (constant S_ .f32 0x3F800000#32)))
    (constant S_ .f32 0x00000000#32)

/-- The localisation loss as the host takes it from a row. -/
abbrev locOf (r : FVec Ideal S1x128 .f32) : FVec Ideal S_ .f32 :=
  select (cmpf .ogt (shapeCast S_ (extractStridedSlice (s := S1x128) S1x1 ![0, 2] r slices_S1x128_S1x1_0_2) shapeCasts_S1x1_S_) (constant S_ .f32 0x00000000#32))
    (Host.divf (shapeCast S_ (extractStridedSlice (s := S1x128) S1x1 ![0, 1] r slices_S1x128_S1x1_0_1) shapeCasts_S1x1_S_)
      (maximumf (mulf (shapeCast S_ (extractStridedSlice (s := S1x128) S1x1 ![0, 2] r slices_S1x128_S1x1_0_2) shapeCasts_S1x1_S_) (constant S_ .f32 0x40800000#32))
        (constant S_ .f32 0x3F800000#32)))
    (constant S_ .f32 0x00000000#32)

/-- Its value, from three lanes of the row. -/
theorem confOf_at (r : FVec Ideal S1x128 .f32) (i : S_.Idx) :
    confOf r i = mean (r (ix2 0 ⟨2, by decide⟩)) (r (ix2 0 ⟨2, by decide⟩)) (r (ix2 0 ⟨0, by decide⟩)) := by
  refine (mean_at _ _ _ _ rfl i).trans ?_
  rw [lane_eq _ 2 (by decide), lane_eq _ 0 (by decide)]

/-- Its value, from three lanes of the row. -/
theorem locOf_at (r : FVec Ideal S1x128 .f32) (i : S_.Idx) :
    locOf r i = mean (r (ix2 0 ⟨2, by decide⟩)) ((r (ix2 0 ⟨2, by decide⟩) : EReal) * Ideal.ofBits .f32 0x40800000#32) (r (ix2 0 ⟨1, by decide⟩)) := by
  have e : ∀ a : FVec Ideal S_ .f32, mulf a (constant S_ .f32 0x40800000#32) i = (a i : EReal) * Ideal.ofBits .f32 0x40800000#32 := fun _ => rfl
  refine (mean_at _ _ _ _ rfl i).trans ?_
  rw [e, lane_eq _ 2 (by decide), lane_eq _ 1 (by decide)]

/-- Taken from the last point's row it is the classification loss. -/
theorem confOf_row : confOf (row X A B T) = fun _ => confLoss X T := by
  funext i
  rw [confOf_at, row_zero, row_two]
  rfl

/-- Taken from the last point's row it is the localisation loss. -/
theorem locOf_row : locOf (row X A B T) = fun _ => locLoss A B T := by
  funext i
  rw [locOf_at, row_one, row_two]
  rfl

/-- The output array after the kernel's grid. -/
theorem out_arr (hT : ∀ i, (argT m c i).toNat < 81) :
    Pipeline.withArrays (cfgs 0).spec c (V0 m c) (fun w => (dats m 0 c).arrAt w (cfgs 0).N) (Proc.devRef .tc main_v3)
      = row (argX m c) (argA m c) (argB m c) (argT m c) :=
  (Pipeline.withArrays_arr (cfgs 0).spec (by decide) c (V0 m c) _ 4).trans (arr_eq m c hT)

/-- The second result, from the output array. -/
theorem tail_conf (r : FVec Ideal S1x128 .f32)
    (hW : Pipeline.withArrays (cfgs 0).spec c (V0 m c) (fun w => (dats m 0 c).arrAt w (cfgs 0).N) (Proc.devRef .tc main_v3) = r) :
    Pipeline.afterTail₀ cfgs (dats m) 0 (V0 m) [hostOps1, hostOps1_1, hostOps1_2, hostOps1_3, hostOps1_4] c main_v13 = confOf r := by
  unfold Pipeline.afterTail₀
  simp only [hostOps1, hostOps1_1, hostOps1_2, hostOps1_3, hostOps1_4, List.flatten_cons, List.flatten_nil, List.append_nil, List.cons_append,
        List.nil_append]
  after_results
  rw [hW]
  simp only [StableHlo.TRef.ofBuf, StableHlo.TRef.toBuf, cast_cast, cast_eq, id_eq]
  rfl

/-- The third result, from the output array. -/
theorem tail_loc (r : FVec Ideal S1x128 .f32)
    (hW : Pipeline.withArrays (cfgs 0).spec c (V0 m c) (fun w => (dats m 0 c).arrAt w (cfgs 0).N) (Proc.devRef .tc main_v3) = r) :
    Pipeline.afterTail₀ cfgs (dats m) 0 (V0 m) [hostOps1, hostOps1_1, hostOps1_2, hostOps1_3, hostOps1_4] c main_v18 = locOf r := by
  unfold Pipeline.afterTail₀
  simp only [hostOps1, hostOps1_1, hostOps1_2, hostOps1_3, hostOps1_4, List.flatten_cons, List.flatten_nil, List.append_nil, List.cons_append,
        List.nil_append]
  after_results
  rw [hW]
  simp only [StableHlo.TRef.ofBuf, StableHlo.TRef.toBuf, cast_cast, cast_eq, id_eq]
  rfl

/-- The first result, from the output array. -/
theorem tail_total (r : FVec Ideal S1x128 .f32)
    (hW : Pipeline.withArrays (cfgs 0).spec c (V0 m c) (fun w => (dats m 0 c).arrAt w (cfgs 0).N) (Proc.devRef .tc main_v3) = r) :
    Pipeline.afterTail₀ cfgs (dats m) 0 (V0 m) [hostOps1, hostOps1_1, hostOps1_2, hostOps1_3, hostOps1_4] c main_v19 = addf (confOf r) (locOf r) := by
  unfold Pipeline.afterTail₀
  simp only [hostOps1, hostOps1_1, hostOps1_2, hostOps1_3, hostOps1_4, List.flatten_cons, List.flatten_nil, List.append_nil, List.cons_append,
        List.nil_append]
  after_results
  rw [hW]
  simp only [StableHlo.TRef.ofBuf, StableHlo.TRef.toBuf, cast_cast, cast_eq, id_eq]
  rfl

/-- The classification loss, a scalar. -/
abbrev confV : FVec Ideal S_ .f32 := fun _ => confLoss X T
/-- The localisation loss, a scalar. -/
abbrev locV : FVec Ideal S_ .f32 := fun _ => locLoss A B T

/-- The kernel's run, with the targets in range: the three losses, the arguments unchanged. -/
theorem run (ρ : Dev nD → PrngReg) (hT : ∀ c i, (argT m c i).toNat < 81) :
    θ_run (defs (F := Ideal)) (onTc (τ := τ) (main (F := Ideal))) ⟨m, fun _ => 0, ρ⟩ (fun r => ∀ c : Dev nD,
      r.2.mem ((c.tc : Thread nD τ).loc main_v19) = addf (confV (argX m c) (argT m c)) (locV (argA m c) (argB m c) (argT m c))
      ∧ r.2.mem ((c.tc : Thread nD τ).loc main_v13) = confV (argX m c) (argT m c)
      ∧ r.2.mem ((c.tc : Thread nD τ).loc main_v18) = locV (argA m c) (argB m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v19 (Pipeline.mem_restRefs_of main_v19 (by decide) (by decide))).trans ((tail_total m c _ (out_arr m c (hT c))).trans (congrArg₂ addf (confOf_row _ _ _ _) (locOf_row _ _ _ _))),
     ((h c).2 main_v13 (Pipeline.mem_restRefs_of main_v13 (by decide) (by decide))).trans ((tail_conf m c _ (out_arr m c (hT c))).trans (confOf_row _ _ _ _)),
     ((h c).2 main_v18 (Pipeline.mem_restRefs_of main_v18 (by decide) (by decide))).trans ((tail_loc m c _ (out_arr m c (hT c))).trans (locOf_row _ _ _ _)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 1).trans (((dats m 0 c).arrAt_in 1 rfl _).trans ((A_eq m c 1).trans (V_main_arg3 m c))),
     ((h c).2 main_arg4 (Pipeline.mem_restRefs_of main_arg4 (by decide) (by decide))).trans (W_main_arg4 m (dats m) c)⟩) (run_main m ρ)

end Cert.Proof.Tail

end
-- ==== Proof.Gather.lean ====
module

public import proofs.«01_k».proof.Proof.Gen.ReferenceIdeal
public import proofs.«01_k».proof.Proof.Spec
public import Idealize.ShloMosaic.Lib.ReduceAll
public import Idealize.ShloMosaic.PureOps.Ideal.Laws

@[expose] public section

/-! The two operations of the reference that read by their operands' values: the gather that takes one logit per row,
    and the reduction that takes a row's maximum. -/

set_option maxRecDepth 16384

noncomputable section

namespace Cert.Proof.Gather

open Idealize.ShloMosaic Cert.ReferenceIdeal Cert.ReferenceIdeal.Gen

/-- Row `p` of a column. -/
abbrev colIdx (p : Fin 786048) : S786048x1.Idx := ix2 p (0 : Fin 1)

/-- The gather takes, from row `p`, the entry its start index names, where that is in range. -/
theorem gather_at (x : FVec Ideal S786048x81 .f32) (w : IVec S786048x1x1 32) (p : Fin 786048) (k : Fin 81)
    (hw : w (ix3 p (0 : Fin 1) (0 : Fin 1)) = BitVec.ofNat 32 k.val) :
    Host.gather gather_S786048x81_S786048x1x1_S786048x1_n_1_0_0_1_2_11 x w (colIdx p) = x (ix2 p k) := by
  have hk := k.isLt
  let g := gather_S786048x81_S786048x1x1_S786048x1_n_1_0_0_1_2_11
  have h0 : g.start (colIdx p) w 0 + g.batchCoord (colIdx p) 0 + g.offCoord (colIdx p) 0 = p.val := by
    have e1 : g.start (colIdx p) w 0 = 0 := g.start_batching _ _ _ (by decide)
    have e2 : g.offCoord (colIdx p) 0 = 0 := g.offCoord_eq_zero _ _ (by decide)
    have e3 : g.batchCoord (colIdx p) 0 = p.val := by
      unfold GatherDims.batchCoord
      rw [dif_pos (by decide)]
      rfl
    rw [e1, e2, e3]; omega
  have h1 : g.start (colIdx p) w 1 + g.batchCoord (colIdx p) 1 + g.offCoord (colIdx p) 1 = k.val := by
    have e2 : g.offCoord (colIdx p) 1 = 0 := g.offCoord_eq_zero _ _ (by decide)
    have e3 : g.batchCoord (colIdx p) 1 = 0 := g.batchCoord_eq_zero _ _ (by decide)
    have hm : (1 : Fin S786048x81.rank) ∈ g.startIndexMap := by decide
    have hi : g.siIdx (colIdx p) ⟨g.startIndexMap.idxOf (1 : Fin S786048x81.rank), List.idxOf_lt_length_iff.2 hm⟩
        = ix3 p (0 : Fin 1) (0 : Fin 1) := by
      funext b
      match b with
      | ⟨0, _⟩ => rfl
      | ⟨1, _⟩ => rfl
      | ⟨2, _⟩ => rfl
    have e1 : g.start (colIdx p) w 1 = k.val := by
      unfold GatherDims.start
      rw [dif_pos hm, hi, hw]
      show min (BitVec.ofNat 32 k.val).toInt.toNat 80 = k.val
      have e : (BitVec.ofNat 32 k.val).toInt.toNat = k.val := by
        have ht : (BitVec.ofNat 32 k.val).toNat = k.val := by rw [BitVec.toNat_ofNat]; omega
        rw [BitVec.toInt_eq_toNat_of_lt (by omega), ht]; rfl
      rw [e]; omega
    rw [e1, e2, e3]; omega
  show x (g.operandIdx (colIdx p) w) = _
  refine congrArg x (funext fun a => Fin.ext ?_)
  match a with
  | ⟨0, _⟩ => exact h0
  | ⟨1, _⟩ => exact h1

/-- The maximum of a row of real numbers, as the reduction computes it, is a real number. -/
theorem rowMax_real (x : FVec Ideal S786048x81 .f32) (i : FVec Ideal S_ .f32) (hi : ∀ j, i j = (⊥ : EReal))
    (hx : ∀ j, ∃ r : ℝ, x j = (r : EReal)) (j : S786048.Idx) :
    ∃ r : ℝ, Host.reduce FloatOps.maximumf x i reducesTo_S786048x81_S786048_d1 h_S_ j = (r : EReal) := by
  rw [Host.reduce_eq_fold_single FloatOps.maximumf x _ reducesTo_S786048x81_S786048_d1 (by decide) h_S_ j, hi]
  exact Spec.fold_max_real _ (by decide) fun k => hx _

end Cert.Proof.Gather

end
-- ==== Proof.Ref.lean ====
module

public import proofs.«01_k».proof.Proof.Gen.ReferenceIdeal.Read
public import proofs.«01_k».proof.Proof.Gather
public import Idealize.ShloMosaic.Lib.Pointwise

@[expose] public section

/-! The reference's three results, over the extended reals, as the losses of `Spec`. -/

set_option maxRecDepth 16384

noncomputable section

namespace Cert.Proof.Ref

open Idealize.ShloMosaic Cert.ReferenceIdeal Cert.ReferenceIdeal.Gen Cert.ReferenceIdeal.Read Cert.Proof.Spec Cert.Proof.Gather

variable (X : Vec Ideal S32x24564x81 .f32) (A B : Vec Ideal S32x24564x4 .f32) (T : Vec Ideal S32x24564 .i32)

/-- The bit pattern of zero. -/
theorem bits_zero : (FloatOps.ofBits (F := Ideal) .f32 0x00000000#32 : EReal) = 0 := by
  show Ideal.ofBits .f32 0x00000000#32 = 0
  simp [Ideal.ofBits, Ideal.ieee]
/-- The bit pattern of one. -/
theorem bits_one : (FloatOps.ofBits (F := Ideal) .f32 0x3F800000#32 : EReal) = 1 := by
  show Ideal.ofBits .f32 0x3F800000#32 = 1
  pointwise []
/-- The bit pattern of negative infinity. -/
theorem bits_bot : (FloatOps.ofBits (F := Ideal) .f32 0xFF800000#32 : EReal) = ⊥ := by
  show Ideal.ofBits .f32 0xFF800000#32 = ⊥
  simp [Ideal.ofBits, Ideal.ieee]

/-- The place of flat prior `p`. -/
abbrev place (p : Fin 786048) : S32x24564.Idx :=
  ix2 (⟨p.val / 24564, by omega⟩ : Fin 32) (⟨p.val % 24564, by omega⟩ : Fin 24564)

/-- The index of flat prior `p`. -/
abbrev flat (p : Fin 786048) : S786048.Idx := ix1 p

/-- The flattened logits at a prior and a class. -/
theorem logit_at (p : Fin 786048) (k : Fin 81) :
    val_main_v0 (F := Ideal) X (ix2 p k) = X (ix3 (place p 0) (place p 1) k) := by
  have hk := k.isLt
  rw [val_main_v0_apply]
  refine congrArg X (funext fun a => Fin.ext ?_)
  match a with
  | ⟨0, _⟩ => show (p.val * 81 + k.val) / 1989684 = p.val / 24564; omega
  | ⟨1, _⟩ => show (p.val * 81 + k.val) / 81 % 24564 = p.val % 24564; omega
  | ⟨2, _⟩ => show (p.val * 81 + k.val) % 81 = k.val; omega

/-- The flattened targets at a prior. -/
theorem target_at (p : Fin 786048) : val_main_v1 (F := Ideal) T (flat p) = T (place p) := by
  rw [val_main_v1_apply]
  refine congrArg T (funext fun a => ?_)
  match a with
  | ⟨0, _⟩ => rfl
  | ⟨1, _⟩ => rfl

/-- A row's maximum, spread over the row. -/
theorem max_at (p : Fin 786048) (k : Fin 81) :
    val_main_call0_v4 (F := Ideal) X (ix2 p k) = val_main_call0_v2 (F := Ideal) X (flat p) := by
  rw [val_main_call0_v4_apply, val_main_call0_v3_apply]
  refine congrArg _ (funext fun a => ?_)
  match a with
  | ⟨0, _⟩ => rfl

/-- The logarithm of a row's summed exponentials, spread over the row. -/
theorem lse_at (p : Fin 786048) (k : Fin 81) :
    val_main_call0_v10 (F := Ideal) X (ix2 p k)
      = Ideal.log (∑ k' : Fin 81, Ideal.exp (val_main_call0_v5 (F := Ideal) X (ix2 p k'))) := by
  rw [val_main_call0_v10_apply, val_main_call0_v9_apply, val_main_call0_v8_apply, val_main_call0_v7_apply,
    val_main_call0_cst_1_apply, bits_zero, zero_add]
  refine congrArg Ideal.log (Finset.sum_congr rfl fun k' _ => ?_)
  rw [val_main_call0_v6_apply]
  refine congrArg (fun j => Ideal.exp (val_main_call0_v5 (F := Ideal) X j)) (funext fun a => ?_)
  match a with
  | ⟨0, _⟩ => rfl
  | ⟨1, _⟩ => rfl

/-- A row's maximum is a real number where the logits are. -/
theorem max_real (hX : ∀ i, ∃ r : ℝ, X i = (r : EReal)) (p : Fin 786048) :
    ∃ r : ℝ, val_main_call0_v2 (F := Ideal) X (flat p) = (r : EReal) := by
  obtain ⟨r, hr⟩ := rowMax_real (val_main_v0 (F := Ideal) X) (val_main_call0_cst (F := Ideal)) (fun _ => bits_bot)
    (fun j => by rw [val_main_v0_apply]; exact hX _) (flat p)
  refine ⟨r, ?_⟩
  rw [val_main_call0_v2_apply, val_main_call0_v1_apply, val_main_call0_cst_0_apply, bits_bot]
  show max (⊥ : EReal) (val_main_call0_v0 (F := Ideal) X (flat p)) = r
  rw [max_eq_right bot_le]
  exact hr

/-- A target in range is the word of a class. -/
theorem word_of (hT : ∀ i, (T i).toNat < 81) (i : S32x24564.Idx) :
    T i = BitVec.ofNat 32 (⟨(T i).toNat % 81, Nat.mod_lt _ (by decide)⟩ : Fin 81).val := by
  have h := hT i
  show T i = BitVec.ofNat 32 ((T i).toNat % 81)
  rw [Nat.mod_eq_of_lt h, BitVec.ofNat_toNat, BitVec.setWidth_eq]

/-- A class's word is not negative, so it is kept as it is. -/
theorem word_keep : ∀ k : Fin 81, Scalar.select (IntOp.cmpi .slt (BitVec.ofNat 32 k.val) 0#32)
    (IntOp.addi (BitVec.ofNat 32 k.val) 81#32) (BitVec.ofNat 32 k.val) = BitVec.ofNat 32 k.val := by decide

/-- A class's word is in bounds. -/
theorem word_in : ∀ k : Fin 81,
    IntOp.andi (IntOp.cmpi .sge (BitVec.ofNat 32 k.val) 0#32) (IntOp.cmpi .sle (BitVec.ofNat 32 k.val) 80#32) = 1#1 := by decide

/-- The class of flat prior `p`. -/
abbrev cls (p : Fin 786048) : Fin 81 := ⟨(T (place p)).toNat % 81, Nat.mod_lt _ (by decide)⟩

/-- The start indices of the gather are the targets. -/
theorem start_at (hT : ∀ i, (T i).toNat < 81) (j : S786048x1x1.Idx) (p : Fin 786048) (hp : (j 0).val = p.val) :
    val_main_call1_v5 (F := Ideal) T j = BitVec.ofNat 32 (cls T p).val := by
  have hj : idx_main_v3 (idx_main_call1_v5 j) = flat p := by
    funext a
    match a with
    | ⟨0, _⟩ =>
      have h1 : (j 1).val < 1 := (j 1).isLt
      have h2 : (j 2).val < 1 := (j 2).isLt
      refine Fin.ext (Eq.trans ?_ hp)
      simp
      try omega
  have e : val_main_v3 (F := Ideal) T (idx_main_call1_v5 j) = BitVec.ofNat 32 (cls T p).val := by
    rw [val_main_v3_apply, hj, target_at]
    exact word_of T hT _
  rw [val_main_call1_v5_apply, val_main_call1_v4_apply, val_main_call1_v1_apply, val_main_call1_v3_apply, e,
    val_main_call1_v0_apply, val_main_call1_v2_apply, val_main_call1_c_apply, val_main_call1_c_0_apply]
  exact word_keep _

/-- Every start index is in bounds. -/
theorem bound_at (hT : ∀ i, (T i).toNat < 81) (j : S786048x1.Idx) : val_main_call1_v12 (F := Ideal) T j = 1#1 := by
  unfold val_main_call1_v12
  refine Host.reduce_andi_one _ _ _ _ _ rfl fun i => ?_
  rw [val_main_call1_v11_apply, val_main_call1_v7_apply, val_main_call1_v10_apply, start_at T hT i (i 0) rfl,
    val_main_call1_v6_apply, val_main_call1_v9_apply, val_main_call1_v8_apply, val_main_call1_c_1_apply, val_main_call1_c_2_apply]
  exact word_in _

/-- The cross-entropy the reference computes for flat prior `p`. -/
theorem ce_at (hX : ∀ i, ∃ r : ℝ, X i = (r : EReal)) (hT : ∀ i, (T i).toNat < 81) (p : Fin 786048) :
    val_main_v6 (F := Ideal) X T (flat p) = ce X T (place p) := by
  obtain ⟨M, hM⟩ := max_real X hX p
  have hj : idx_main_v5 (flat p) = colIdx p := by
    funext a
    match a with
    | ⟨0, _⟩ => refine Fin.ext ?_; simp; try omega
    | ⟨1, _⟩ => refine Fin.ext ?_; simp; try omega
  have h5 : ∀ k, val_main_call0_v5 (F := Ideal) X (ix2 p k) = X (ix3 (place p 0) (place p 1) k) - (M : EReal) := fun k => by
    rw [val_main_call0_v5_apply, max_at, hM, logit_at]; rfl
  have hg : val_main_call1_v13 (F := Ideal) X T (colIdx p) = val_main_v2 (F := Ideal) X (ix2 p (cls T p)) :=
    gather_at _ _ p (cls T p) (start_at T hT _ p rfl)
  rw [val_main_v6_apply, val_main_v5_apply, hj, val_main_v4_apply, bound_at T hT, hg, val_main_v2_apply, lse_at, h5]
  simp only [h5]
  exact lse_shift (fun k => X (ix3 (place p 0) (place p 1) k)) (cls T p) M (fun k => hX _) ⟨M, rfl⟩

/-- Flat priors against places. -/
def flatEquiv : S786048.Idx ≃ S32x24564.Idx where
  toFun i := place (i 0)
  invFun i := flat ⟨(i 0).val * 24564 + (i 1).val, by
    have h0 : (i 0).val < 32 := (i 0).isLt
    have h1 : (i 1).val < 24564 := (i 1).isLt
    omega⟩
  left_inv i := by
    funext a
    match a with
    | ⟨0, _⟩ => refine Fin.ext ?_; show (i 0).val / 24564 * 24564 + (i 0).val % 24564 = (i 0).val; omega
  right_inv i := by
    have h0 : (i 0).val < 32 := (i 0).isLt
    have h1 : (i 1).val < 24564 := (i 1).isLt
    funext a
    match a with
    | ⟨0, _⟩ => refine Fin.ext ?_; show ((i 0).val * 24564 + (i 1).val) / 24564 = (i 0).val; omega
    | ⟨1, _⟩ => refine Fin.ext ?_; show ((i 0).val * 24564 + (i 1).val) % 24564 = (i 1).val; omega

/-- A sum over flat priors is the sum over the places. -/
theorem sum_flat (f : S786048.Idx → EReal) (g : S32x24564.Idx → EReal) (h : ∀ p, f (flat p) = g (place p)) :
    ∑ i, f i = ∑ i, g i := by
  rw [← Equiv.sum_comp flatEquiv g]
  refine Finset.sum_congr rfl fun i _ => ?_
  have e : i = flat (i 0) := by
    funext a
    match a with
    | ⟨0, _⟩ => rfl
  exact (congrArg f e).trans (h (i 0))

/-- The weight of flat prior `p`. -/
theorem weight_at (p : Fin 786048) : val_main_v9 (F := Ideal) T (flat p) = pos (T (place p)) := by
  rw [val_main_v9_apply, val_main_v8_apply, val_main_v7_apply, val_main_c_apply, target_at]
  rfl

/-- The reference's count of positive priors, over the flat priors. -/
theorem count_flat (i : S_.Idx) : val_main_v10 (F := Ideal) T i = Spec.count T := by
  rw [val_main_v10_apply, val_main_cst_apply, bits_zero, zero_add]
  exact sum_flat _ _ (weight_at T)

/-- The reference's summed cross-entropy. -/
theorem confSum_flat (hX : ∀ i, ∃ r : ℝ, X i = (r : EReal)) (hT : ∀ i, (T i).toNat < 81) (i : S_.Idx) :
    val_main_v13 (F := Ideal) X T i = confSum X T := by
  rw [val_main_v13_apply, val_main_cst_1_apply, bits_zero, zero_add]
  refine sum_flat _ _ fun p => ?_
  rw [val_main_v12_apply, ce_at X T hX hT, weight_at]
  exact mul_comm _ _

/-- The reference's classification loss. -/
theorem conf_ref (hX : ∀ i, ∃ r : ℝ, X i = (r : EReal)) (hT : ∀ i, (T i).toNat < 81) :
    val_main_v16 (F := Ideal) X T = fun _ => confLoss X T := by
  funext i
  rw [val_main_v16_apply, val_main_v11_apply, val_main_v15_apply, val_main_v14_apply, val_main_call2_v0_apply,
    val_main_cst_0_apply, val_main_cst_2_apply, val_main_cst_3_apply, count_flat, confSum_flat X T hX hT, bits_zero, bits_one]
  unfold confLoss mean
  rw [Ideal.hostDivf_def]
  rfl

/-- The reference's count of positive priors, over the places. -/
theorem count_place (i : S_.Idx) : val_main_v20 (F := Ideal) T i = Spec.count T := by
  rw [val_main_v20_apply, val_main_cst_5_apply, bits_zero, zero_add]
  refine Finset.sum_congr rfl fun j _ => ?_
  rw [val_main_v19_apply, val_main_v18_apply, val_main_v17_apply, val_main_c_4_apply]
  rfl

/-- The reference's smooth L1 distance. -/
theorem hub_ref (i : S32x24564x4.Idx) : val_main_v30 (F := Ideal) A B i = hub (A i) (B i) := by
  rw [val_main_v30_apply, val_main_v24_apply, val_main_v27_apply, val_main_v29_apply, val_main_v26_apply, val_main_v22_apply,
    val_main_v21_apply, val_main_v23_apply, val_main_v25_apply, val_main_v28_apply, val_main_cst_6_apply, val_main_cst_7_apply,
    val_main_cst_8_apply, bits_one]
  rfl

/-- The weight of a place, spread over its four coordinates. -/
theorem weight_box (i : S32x24564x4.Idx) : val_main_v32 (F := Ideal) T i = pos (T (ix2 (i 0) (i 1))) := by
  rw [val_main_v32_apply, val_main_v31_apply, val_main_v19_apply, val_main_v18_apply, val_main_v17_apply, val_main_c_4_apply]
  refine congrArg (fun j => pos (T j)) (funext fun a => ?_)
  match a with
  | ⟨0, _⟩ => rfl
  | ⟨1, _⟩ => rfl

/-- The reference's summed smooth L1 distance. -/
theorem locSum_ref (i : S_.Idx) : val_main_v34 (F := Ideal) A B T i = locSum A B T := by
  rw [val_main_v34_apply, val_main_cst_9_apply, bits_zero, zero_add]
  refine Finset.sum_congr rfl fun j _ => ?_
  rw [val_main_v33_apply, hub_ref, weight_box]
  rfl

/-- The reference's localisation loss. -/
theorem loc_ref : val_main_v39 (F := Ideal) A B T = fun _ => locLoss A B T := by
  funext i
  rw [val_main_v39_apply, val_main_v35_apply, val_main_v38_apply, val_main_v37_apply, val_main_v36_apply, val_main_call4_v0_apply,
    val_main_cst_10_apply, val_main_cst_11_apply, val_main_cst_12_apply, val_main_cst_13_apply, count_place, locSum_ref,
    bits_zero, bits_one]
  unfold locLoss mean
  rw [Ideal.hostDivf_def]
  rfl

/-- The reference's total loss. -/
theorem total_ref (hX : ∀ i, ∃ r : ℝ, X i = (r : EReal)) (hT : ∀ i, (T i).toNat < 81) :
    val_main_v41 (F := Ideal) A X B T
      = fun _ => FloatOps.addf (F := Ideal) (φ := .f32) (confLoss X T) (locLoss A B T) := by
  funext i
  rw [val_main_v41_apply, conf_ref X T hX hT, val_main_v40_apply, loc_ref, val_main_cst_14_apply, bits_one]
  have e : ∀ a b : EReal, FloatOps.addf (F := Ideal) (φ := .f32) a (FloatOps.mulf (F := Ideal) (φ := .f32) (1 : EReal) b)
      = FloatOps.addf (F := Ideal) (φ := .f32) a b := fun a b => congrArg (fun z : EReal => a + z) (one_mul b)
  exact e _ _

end Cert.Proof.Ref

end
-- ==== Proof.Pre.lean ====
module

public import proofs.«01_k».proof.Proof.Gen.Pre_in_range
public import Idealize.ShloMosaic.Lib.ReduceAll
public import Idealize.ShloMosaic.Lib.Affine
public import Idealize.ShloMosaic.Lib.Pointwise
public import Idealize.ShloMosaic.PureOps.Ideal.Laws

@[expose] public section

/-! What the precondition says of the arguments: every logit is a real number and every target is a class. -/

set_option maxRecDepth 16384

noncomputable section

namespace Cert.Proof.Pre

open Idealize.ShloMosaic Cert.Pre_in_range Cert.Pre_in_range.Gen

/-- The bit pattern of positive infinity. -/
theorem bits_top : (Ideal.ofBits .f32 0x7F800000#32 : EReal) = ⊤ := by
  simp [Ideal.ofBits, Ideal.ieee]

/-- An extended real whose magnitude is below infinity is a real number. -/
theorem real_of_lt (x : EReal) (h : Ideal.cmp .olt (max x (-x)) (Ideal.ofBits .f32 0x7F800000#32) = 1#1) :
    ∃ r : ℝ, x = (r : EReal) := by
  rw [bits_top] at h
  induction x using EReal.rec with
  | bot => simp [Ideal.cmp] at h
  | coe r => exact ⟨r, rfl⟩
  | top => simp [Ideal.cmp] at h

/-- A word read as a signed number of `0, …, 80` is one of the first 81 words. -/
theorem lt_of_bounds (w : BitVec 32) (h0 : IntOp.cmpi .sge w 0#32 = 1#1) (h1 : IntOp.cmpi .slt w 81#32 = 1#1) : w.toNat < 81 := by
  have a : (0#32).sle w = true := by
    revert h0; show BitVec.ofBool ((0#32).sle w) = 1#1 → _
    cases (0#32).sle w <;> decide
  have b : w.slt 81#32 = true := by
    revert h1; show BitVec.ofBool (w.slt 81#32) = 1#1 → _
    cases w.slt 81#32 <;> decide
  rw [BitVec.sle_iff_toInt_le] at a
  rw [BitVec.slt_iff_toInt_lt] at b
  have e0 : (0#32).toInt = 0 := by decide
  have e1 : (81#32).toInt = 81 := by decide
  rw [e0] at a
  rw [e1] at b
  rw [BitVec.toInt_eq_toNat_cond] at a b
  split at a <;> omega

/-- The arrays the precondition holds of: the logits are real numbers and the targets are classes. -/
theorem decode (a0 a2 : FVec Ideal S32x24564x4 .f32) (a1 : FVec Ideal S32x24564x81 .f32) (a3 : IVec S32x24564 32)
    (a4 : FVec Ideal S24564x4 .f32) (h : fn a0 a1 a2 a3 a4 = fun _ => 1#1) :
    (∀ i, ∃ r : ℝ, a1 i = (r : EReal)) ∧ ∀ i, (a3 i).toNat < 81 := by
  haveI : Subsingleton S_.Idx := ⟨fun a b => funext fun k => k.elim0⟩
  have h := congrFun h (Shape.Idx.first h_S_)
  unfold fn at h
  obtain ⟨hx, ht⟩ := IntOp.andi_eq_one.1 h
  refine ⟨fun i => ?_, fun i => ?_⟩
  · exact real_of_lt _ (Host.reduce_andi_all _ _ _ _ _ hx i)
  · obtain ⟨h0, h1⟩ := IntOp.andi_eq_one.1 (Host.reduce_andi_all _ _ _ _ _ ht i)
    exact lt_of_bounds _ h0 h1

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Tail
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem

/-- The kernel's own text runs, leaves its arguments unchanged and ends with its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does its idealization on arrays in range. -/
theorem frame_ideal_in_range : Cert.quiescent_KernelIdeal_pre_in_range := fun m ρ _ => Cert.KernelIdeal.Gen.frame m ρ

/-- The reference runs, leaves its arguments unchanged and ends with its counters at zero: it declares none. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- So it does on arrays in range. -/
theorem frame_reference_in_range : Cert.quiescent_ReferenceIdeal_pre_in_range := fun m ρ _ => frame_reference m ρ trivial

/-- The classification loss as a scalar. -/
abbrev confS (X : Vec Ideal Cert.KernelIdeal.S32x24564x81 .f32) (T : Vec Ideal Cert.KernelIdeal.S32x24564 .i32) :
    FVec Ideal Cert.KernelIdeal.S_ .f32 := Tail.confV X T
/-- The localisation loss as a scalar. -/
abbrev locS (A B : Vec Ideal Cert.KernelIdeal.S32x24564x4 .f32) (T : Vec Ideal Cert.KernelIdeal.S32x24564 .i32) :
    FVec Ideal Cert.KernelIdeal.S_ .f32 := Tail.locV A B T

/-- The reference's run, on finite logits and targets that are classes: the three losses, the arguments unchanged. -/
theorem run_reference (m : (ℓ : Loc Cert.ReferenceIdeal.nD Cert.ReferenceIdeal.τ Cert.ReferenceIdeal.sig) → Buf (Elt Ideal) ℓ)
    (ρ : Dev Cert.ReferenceIdeal.nD → PrngReg)
    (A B : Dev Cert.ReferenceIdeal.nD → Vec Ideal Cert.KernelIdeal.S32x24564x4 .f32)
    (X : Dev Cert.ReferenceIdeal.nD → Vec Ideal Cert.KernelIdeal.S32x24564x81 .f32)
    (T : Dev Cert.ReferenceIdeal.nD → Vec Ideal Cert.KernelIdeal.S32x24564 .i32)
    (hX : ∀ c i, ∃ r : ℝ, X c i = (r : EReal)) (hT : ∀ c i, (T c i).toNat < 81)
    (h0 : ∀ c : Dev Cert.ReferenceIdeal.nD, m ((c.tc : Thread Cert.ReferenceIdeal.nD Cert.ReferenceIdeal.τ).loc Cert.ReferenceIdeal.main_arg0) = A c)
    (h1 : ∀ c : Dev Cert.ReferenceIdeal.nD, m ((c.tc : Thread Cert.ReferenceIdeal.nD Cert.ReferenceIdeal.τ).loc Cert.ReferenceIdeal.main_arg1) = X c)
    (h2 : ∀ c : Dev Cert.ReferenceIdeal.nD, m ((c.tc : Thread Cert.ReferenceIdeal.nD Cert.ReferenceIdeal.τ).loc Cert.ReferenceIdeal.main_arg2) = B c)
    (h3 : ∀ c : Dev Cert.ReferenceIdeal.nD, m ((c.tc : Thread Cert.ReferenceIdeal.nD Cert.ReferenceIdeal.τ).loc Cert.ReferenceIdeal.main_arg3) = T c) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v41)
          = addf (confS (X c) (T c)) (locS (A c) (B c) (T c))
        ∧ r.2.mem ((c.tc : Thread Cert.ReferenceIdeal.nD Cert.ReferenceIdeal.τ).loc Cert.ReferenceIdeal.main_v16) = confS (X c) (T c)
        ∧ r.2.mem ((c.tc : Thread Cert.ReferenceIdeal.nD Cert.ReferenceIdeal.τ).loc Cert.ReferenceIdeal.main_v39) = locS (A c) (B c) (T c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) := by
  refine (θ_run Cert.ReferenceIdeal.defs _ _).mono (fun r h c => ?_) (Cert.ReferenceIdeal.Value.run (F := Ideal) m ρ)
  obtain ⟨e0, e1, e2, ea⟩ := h c
  refine ⟨e0.trans ((Cert.ReferenceIdeal.Read.val_main_v41_eq m c).trans ?_),
    e1.trans ((Cert.ReferenceIdeal.Read.val_main_v16_eq m c).trans ?_),
    e2.trans ((Cert.ReferenceIdeal.Read.val_main_v39_eq _ _ _).trans ?_), ea⟩
  · rw [h0, h1, h2, h3]; exact Ref.total_ref _ _ _ _ (hX c) (hT c)
  · rw [h1, h3]; exact Ref.conf_ref _ _ (hX c) (hT c)
  · rw [h0, h2, h3]; exact Ref.loc_ref _ _ _

/-- The kernel and the reference end with equal losses on arrays in range. -/
theorem algebraic : Cert.algebraic_KernelIdeal_ReferenceIdeal_pre_in_range := by
  intro m g m' g' hp ha
  have hd := fun c => Pre.decode _ _ _ _ _ (hp c)
  refine ⟨_, _, _, Tail.run m g (fun c => (hd c).2), ?_⟩
  exact run_reference m' g' (fun c => Kern.argA m c) (fun c => Kern.argB m c) (fun c => Kern.argX m c) (fun c => Kern.argT m c)
    (fun c => (hd c).1) (fun c => (hd c).2)
    (fun c => (ha c).1) (fun c => (ha c).2.1) (fun c => (ha c).2.2.1) (fun c => (ha c).2.2.2.1)

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, frame_ideal_in_range, frame_reference, frame_reference_in_range, trivial, algebraic⟩

end Cert.Proof

end
